-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x512 : Shape := ⟨2, ![2048, 512]⟩
abbrev S1024x512 : Shape := ⟨2, ![1024, 512]⟩
abbrev S8 : Shape := ⟨1, ![8]⟩
abbrev S_ : Shape := ⟨0, ![]⟩
abbrev S1x128x512 : Shape := ⟨3, ![1, 128, 512]⟩
abbrev S128x512 : Shape := ⟨2, ![128, 512]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .f32⟩
  | .local _ .vmem, ⟨0, _⟩ => ⟨S1x2048x1024, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7 : BitVec 32 := 8#32
  let v16 : BitVec 32 := Scalar.muli v2 c8_i32_7
  let v17 : BitVec 32 := Scalar.addi c0_i32 v16
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_8 : BitVec 32 := 4#32
  let v18 : BitVec 32 := Scalar.muli v9 c4_i32_8
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v20 : BitVec 32 := Scalar.muli v8 c1_i32_9
  let v21 : BitVec 32 := Scalar.addi v19 v20
  v21.toNat
def k0_dev2 (d0 : Dev nD) : Nat :=
  let c0_i32_12 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_11 : BitVec 32 := 8#32
  let v22 : BitVec 32 := Scalar.muli v10 c8_i32_11
  let v23 : BitVec 32 := Scalar.addi c0_i32_12 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v24 : BitVec 32 := Scalar.muli v5 c4_i32_13
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v26 : BitVec 32 := Scalar.muli v8 c1_i32_14
  let v27 : BitVec 32 := Scalar.addi v25 v26
  v27.toNat
def k0_off1 (d0 : Dev nD) (c0_i32_16 : BitVec 32) : Fin 3 → Nat :=
  let c0 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  let v28 : BitVec 32 := Scalar.addi v11 c0_i32_16
  let v29 : Index := Scalar.indexCast v28
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32_5 : BitVec 32 := 512#32
  let v14 : BitVec 32 := Scalar.muli v9 c512_i32_5
  let v30 : Index := Scalar.indexCast v14
  ![0, v29.toNat, v30.toNat]
def k0_dev3 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v37 : BitVec 32 := Scalar.muli v2 c8_i32_21
  let v38 : BitVec 32 := Scalar.addi c0_i32_22 v37
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_23 : BitVec 32 := 4#32
  let v39 : BitVec 32 := Scalar.muli v9 c4_i32_23
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v41 : BitVec 32 := Scalar.muli v8 c1_i32_24
  let v42 : BitVec 32 := Scalar.addi v40 v41
  v42.toNat
def k0_dev4 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v58 : BitVec 32 := Scalar.muli v2 c8_i32_33
  let v59 : BitVec 32 := Scalar.addi c0_i32_34 v58
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_35 : BitVec 32 := 4#32
  let v60 : BitVec 32 := Scalar.muli v9 c4_i32_35
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v62 : BitVec 32 := Scalar.muli v8 c1_i32_36
  let v63 : BitVec 32 := Scalar.addi v61 v62
  v63.toNat
def k0_dev5 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v79 : BitVec 32 := Scalar.muli v2 c8_i32_45
  let v80 : BitVec 32 := Scalar.addi c0_i32_46 v79
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_47 : BitVec 32 := 4#32
  let v81 : BitVec 32 := Scalar.muli v9 c4_i32_47
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v83 : BitVec 32 := Scalar.muli v8 c1_i32_48
  let v84 : BitVec 32 := Scalar.addi v82 v83
  v84.toNat
def k0_dev6 (d0 : Dev nD) : Nat :=
  let c0_i32_57 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_56 : BitVec 32 := 8#32
  let v100 : BitVec 32 := Scalar.muli v2 c8_i32_56
  let v101 : BitVec 32 := Scalar.addi c0_i32_57 v100
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_58 : BitVec 32 := 4#32
  let v102 : BitVec 32 := Scalar.muli v9 c4_i32_58
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v104 : BitVec 32 := Scalar.muli v8 c1_i32_59
  let v105 : BitVec 32 := Scalar.addi v103 v104
  v105.toNat
def k0_dev7 (d0 : Dev nD) : Nat :=
  let c0_i32_70 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_69 : BitVec 32 := 8#32
  let v121 : BitVec 32 := Scalar.muli v2 c8_i32_69
  let v122 : BitVec 32 := Scalar.addi c0_i32_70 v121
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_71 : BitVec 32 := 4#32
  let v123 : BitVec 32 := Scalar.muli v9 c4_i32_71
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v125 : BitVec 32 := Scalar.muli v8 c1_i32_72
  let v126 : BitVec 32 := Scalar.addi v124 v125
  v126.toNat
def k0_dev8 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v142 : BitVec 32 := Scalar.muli v2 c8_i32_80
  let v143 : BitVec 32 := Scalar.addi c0_i32_81 v142
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v144 : BitVec 32 := Scalar.muli v9 c4_i32_82
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v146 : BitVec 32 := Scalar.muli v8 c1_i32_83
  let v147 : BitVec 32 := Scalar.addi v145 v146
  v147.toNat
def k0_dev9 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_91 : BitVec 32 := 8#32
  let v163 : BitVec 32 := Scalar.muli v2 c8_i32_91
  let v164 : BitVec 32 := Scalar.addi c0_i32_92 v163
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_93 : BitVec 32 := 4#32
  let v165 : BitVec 32 := Scalar.muli v9 c4_i32_93
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v167 : BitVec 32 := Scalar.muli v8 c1_i32_94
  let v168 : BitVec 32 := Scalar.addi v166 v167
  v168.toNat
def k0_dev10 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_102 : BitVec 32 := 8#32
  let v184 : BitVec 32 := Scalar.muli v2 c8_i32_102
  let v185 : BitVec 32 := Scalar.addi c0_i32_103 v184
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_104 : BitVec 32 := 4#32
  let v186 : BitVec 32 := Scalar.muli v9 c4_i32_104
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v188 : BitVec 32 := Scalar.muli v8 c1_i32_105
  let v189 : BitVec 32 := Scalar.addi v187 v188
  v189.toNat
def k0_dev11 (d0 : Dev nD) : Nat :=
  let c0_i32_123 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_122 : BitVec 32 := 8#32
  let v206 : BitVec 32 := Scalar.muli v10 c8_i32_122
  let v207 : BitVec 32 := Scalar.addi c0_i32_123 v206
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_124 : BitVec 32 := 4#32
  let v208 : BitVec 32 := Scalar.muli v5 c4_i32_124
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v210 : BitVec 32 := Scalar.muli v8 c1_i32_125
  let v211 : BitVec 32 := Scalar.addi v209 v210
  v211.toNat
def k0_off2 (d0 : Dev nD) (c0_i32_130 : BitVec 32) : Fin 3 → Nat :=
  let c0_131 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  let v218 : BitVec 32 := Scalar.addi v11 c0_i32_130
  let v219 : Index := Scalar.indexCast v218
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v13 : BitVec 32 := Scalar.muli v5 c512_i32
  let v220 : Index := Scalar.indexCast v13
  ![0, v219.toNat, v220.toNat]
def k0_off3 (d0 : Dev nD) (c0_i32_134 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  let v226 : BitVec 32 := Scalar.addi v11 c0_i32_134
  let v227 : Index := Scalar.indexCast v226
  let c0_135 : Index := 0#32
  ![v227.toNat, 0]
def k0_dev12 (d0 : Dev nD) : Nat :=
  let c0_i32_149 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_148 : BitVec 32 := 8#32
  let v239 : BitVec 32 := Scalar.muli v10 c8_i32_148
  let v240 : BitVec 32 := Scalar.addi c0_i32_149 v239
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_150 : BitVec 32 := 4#32
  let v241 : BitVec 32 := Scalar.muli v5 c4_i32_150
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v243 : BitVec 32 := Scalar.muli v8 c1_i32_151
  let v244 : BitVec 32 := Scalar.addi v242 v243
  v244.toNat
def k0_dev13 (d0 : Dev nD) : Nat :=
  let c0_i32_175 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_174 : BitVec 32 := 8#32
  let v272 : BitVec 32 := Scalar.muli v10 c8_i32_174
  let v273 : BitVec 32 := Scalar.addi c0_i32_175 v272
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_176 : BitVec 32 := 4#32
  let v274 : BitVec 32 := Scalar.muli v5 c4_i32_176
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_177 : BitVec 32 := 1#32
  let v276 : BitVec 32 := Scalar.muli v8 c1_i32_177
  let v277 : BitVec 32 := Scalar.addi v275 v276
  v277.toNat
def k0_dev14 (d0 : Dev nD) : Nat :=
  let c0_i32_201 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_200 : BitVec 32 := 8#32
  let v305 : BitVec 32 := Scalar.muli v10 c8_i32_200
  let v306 : BitVec 32 := Scalar.addi c0_i32_201 v305
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_202 : BitVec 32 := 4#32
  let v307 : BitVec 32 := Scalar.muli v5 c4_i32_202
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v309 : BitVec 32 := Scalar.muli v8 c1_i32_203
  let v310 : BitVec 32 := Scalar.addi v308 v309
  v310.toNat
def k0_dev15 (d0 : Dev nD) : Nat :=
  let c0_i32_227 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_226 : BitVec 32 := 8#32
  let v338 : BitVec 32 := Scalar.muli v10 c8_i32_226
  let v339 : BitVec 32 := Scalar.addi c0_i32_227 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_228 : BitVec 32 := 4#32
  let v340 : BitVec 32 := Scalar.muli v5 c4_i32_228
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v342 : BitVec 32 := Scalar.muli v8 c1_i32_229
  let v343 : BitVec 32 := Scalar.addi v341 v342
  v343.toNat
def k0_dev16 (d0 : Dev nD) : Nat :=
  let c0_i32_253 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_252 : BitVec 32 := 8#32
  let v371 : BitVec 32 := Scalar.muli v10 c8_i32_252
  let v372 : BitVec 32 := Scalar.addi c0_i32_253 v371
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_254 : BitVec 32 := 4#32
  let v373 : BitVec 32 := Scalar.muli v5 c4_i32_254
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v375 : BitVec 32 := Scalar.muli v8 c1_i32_255
  let v376 : BitVec 32 := Scalar.addi v374 v375
  v376.toNat
def k0_dev17 (d0 : Dev nD) : Nat :=
  let c0_i32_279 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_278 : BitVec 32 := 8#32
  let v404 : BitVec 32 := Scalar.muli v10 c8_i32_278
  let v405 : BitVec 32 := Scalar.addi c0_i32_279 v404
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_280 : BitVec 32 := 4#32
  let v406 : BitVec 32 := Scalar.muli v5 c4_i32_280
  let v407 : BitVec 32 := Scalar.addi v405 v406
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v408 : BitVec 32 := Scalar.muli v8 c1_i32_281
  let v409 : BitVec 32 := Scalar.addi v407 v408
  v409.toNat
def k0_dev18 (d0 : Dev nD) : Nat :=
  let c0_i32_305 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_304 : BitVec 32 := 8#32
  let v437 : BitVec 32 := Scalar.muli v10 c8_i32_304
  let v438 : BitVec 32 := Scalar.addi c0_i32_305 v437
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_306 : BitVec 32 := 4#32
  let v439 : BitVec 32 := Scalar.muli v5 c4_i32_306
  let v440 : BitVec 32 := Scalar.addi v438 v439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v441 : BitVec 32 := Scalar.muli v8 c1_i32_307
  let v442 : BitVec 32 := Scalar.addi v440 v441
  v442.toNat
def k0_off4 (d0 : Dev nD) (c0_i32_328 : BitVec 32) : Fin 3 → Nat :=
  let c0_329 : Index := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c1024_i32_4 : BitVec 32 := 1024#32
  let v12 : BitVec 32 := Scalar.muli v10 c1024_i32_4
  let v470 : BitVec 32 := Scalar.addi v12 c0_i32_328
  let v471 : Index := Scalar.indexCast v470
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v13 : BitVec 32 := Scalar.muli v5 c512_i32
  let v472 : Index := Scalar.indexCast v13
  ![0, v471.toNat, v472.toNat]
def k0_off5 (d0 : Dev nD) (c0_i32_332 : BitVec 32) : Fin 2 → Nat :=
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c1024_i32_4 : BitVec 32 := 1024#32
  let v12 : BitVec 32 := Scalar.muli v10 c1024_i32_4
  let v478 : BitVec 32 := Scalar.addi v12 c0_i32_332
  let v479 : Index := Scalar.indexCast v478
  let c0_333 : Index := 0#32
  ![v479.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealProgram.lean ====
/-
The kernel's body as a program over row chunks.

The kernel works on eight chunks of 128 rows. Its printed body is one straight line of operations; here it is written as
five loops over the chunks, each with one body that is stated for a chunk number `i`, and proved equal to the printed body.
-/
module

public import proofs.«01_k».proof.Proof.Gen.KernelIdeal.Skeleton

@[expose] public section

noncomputable section

namespace Cert.KernelIdealProof

open Cert.KernelIdeal Cert.KernelIdeal.Gen
open Idealize.ShloMosaic Idealize.ShloMosaic.TcCoe Idealize.SL.Sem

variable {F : FTy → Type} [FloatOps F]

/-! ## The buffers, their chunks, the semaphores -/

/-- The device's block of `x`, the result, the rows sent along `y`, the rows received along `y`, the rows received along `x`. -/
abbrev xM : Memref sig .tc .vmem S1x2048x1024 .f32 := Memref.whole cc0_stg0_0
abbrev oM : Memref sig .tc .vmem S2048x512 .f32 := Memref.whole cc0_stg1_0
abbrev sM : Memref sig .tc .vmem S1024x512 .bf16 := Memref.whole cc0_scratch0
abbrev yM : Memref sig .tc .vmem S1024x512 .bf16 := Memref.whole cc0_scratch1
abbrev rM : Memref sig .tc .vmem S1024x512 .bf16 := Memref.whole cc0_scratch2

theorem rows_inb (i : Fin 8) : ∀ a, (![128 * i.val, 0] : Fin 2 → Nat) a + S128x512.size a ≤ S1024x512.size a := by
  revert i; decide

/-- The rows `128 i … 128 i + 127` of a 1024-row buffer. -/
abbrev rows (i : Fin 8) : Rect S1024x512 := Rect.unit (s := S1024x512) ![128 * i.val, 0] S128x512.size (rows_inb i)

/-- A 1024-row buffer's chunk `i`. -/
abbrev chunk (a : Memref sig .tc .vmem S1024x512 .bf16) (i : Fin 8) : Memref sig .tc .vmem S128x512 .bf16 :=
  a.slice (rows i) (fun _ => rfl)

theorem rows_packed (i : Fin 8) : (rows i).PackedRows (EltTy.packing .bf16) := by revert i; decide
theorem rows_words (i : Fin 8) : (rows i).WholeWords (EltTy.packing .bf16) := by revert i; decide

theorem sem_inb (i : Fin 8) : ∀ a, (![i.val] : Fin 1 → Nat) a + S1.size a ≤ S8.size a := by revert i; decide

/-- Entry `i` of an array of eight DMA semaphores. -/
abbrev semAt (a : DmaSems sig S8) (i : Fin 8) : DmaSems sig S_ :=
  (a.slice (Rect.unit (s := S8) ![i.val] S1.size (sem_inb i))).squeeze S_ squeezes_S1_S_

/-- The runtime's barrier semaphore. -/
abbrev barS : Sem sig := (SemArray.scalar (sig.barrier 0 rfl) : Sems sig S_).sem

/-! ## The devices the program names -/

/-- The device chunk `i`'s copy along `y` goes to, as the program computes it. -/
def yDev (d : Dev nD) : Fin 8 → Dev nD
  | 0 => ⟨k0_dev3 d, k0_dev3_lt d⟩ | 1 => ⟨k0_dev4 d, k0_dev4_lt d⟩ | 2 => ⟨k0_dev5 d, k0_dev5_lt d⟩ | 3 => ⟨k0_dev6 d, k0_dev6_lt d⟩
  | 4 => ⟨k0_dev7 d, k0_dev7_lt d⟩ | 5 => ⟨k0_dev8 d, k0_dev8_lt d⟩ | 6 => ⟨k0_dev9 d, k0_dev9_lt d⟩ | 7 => ⟨k0_dev10 d, k0_dev10_lt d⟩

/-- The device chunk `i`'s copy along `x` goes to, as the program computes it. -/
def xDev (d : Dev nD) : Fin 8 → Dev nD
  | 0 => ⟨k0_dev11 d, k0_dev11_lt d⟩ | 1 => ⟨k0_dev12 d, k0_dev12_lt d⟩ | 2 => ⟨k0_dev13 d, k0_dev13_lt d⟩ | 3 => ⟨k0_dev14 d, k0_dev14_lt d⟩
  | 4 => ⟨k0_dev15 d, k0_dev15_lt d⟩ | 5 => ⟨k0_dev16 d, k0_dev16_lt d⟩ | 6 => ⟨k0_dev17 d, k0_dev17_lt d⟩ | 7 => ⟨k0_dev18 d, k0_dev18_lt d⟩

/-! ## What one chunk's store holds -/

/-- A chunk of `x` rounded for the wire. -/
def wire (v : Vec F S1x128x512 .f32) : FVec F S128x512 .bf16 :=
  shapeCast S128x512 (truncf .bf16 (shapeCast S128x512 v shapeCasts_S1x128x512_S128x512) bitsLt_bf16_f32) shapeCasts_S128x512_S128x512

/-- A chunk of `x` plus a chunk received. -/
def summed (v : Vec F S1x128x512 .f32) (w : Vec F S128x512 .bf16) : FVec F S128x512 .f32 :=
  addf (shapeCast S128x512 v shapeCasts_S1x128x512_S128x512) (extf .f32 w bitsLt_bf16_f32)

/-! ## The loops' bodies -/

/-- The windows of `x` the three loops read: the rows and columns sent, the rows and columns kept beside what arrives along
    `y`, and those kept beside what arrives along `x`. -/
abbrev xSent (d : Dev nD) (i : Fin 8) : Rect S1x2048x1024 :=
  Rect.unit (s := S1x2048x1024) (k0_off1 d (BitVec.ofNat 32 (128 * i.val))) S1x128x512.size (k0_off1_inb d i)
abbrev xNear (d : Dev nD) (i : Fin 8) : Rect S1x2048x1024 :=
  Rect.unit (s := S1x2048x1024) (k0_off2 d (BitVec.ofNat 32 (128 * i.val))) S1x128x512.size (k0_off2_inb d i)
abbrev xFar (d : Dev nD) (i : Fin 8) : Rect S1x2048x1024 :=
  Rect.unit (s := S1x2048x1024) (k0_off4 d (BitVec.ofNat 32 (128 * i.val))) S1x128x512.size (k0_off4_inb d i)

/-- The rows of the result the last two loops write. -/
abbrev oNear (d : Dev nD) (i : Fin 8) : Rect S2048x512 :=
  Rect.unit (s := S2048x512) (k0_off3 d (BitVec.ofNat 32 (128 * i.val))) S128x512.size (k0_off3_inb d i)
abbrev oFar (d : Dev nD) (i : Fin 8) : Rect S2048x512 :=
  Rect.unit (s := S2048x512) (k0_off5 d (BitVec.ofNat 32 (128 * i.val))) S128x512.size (k0_off5_inb d i)

/-- A program over the device's effects. -/
abbrev Steps (F : FTy → Type) [FloatOps F] : Type 1 := Prog (TpuEff nD τ sig (Elt F) Λ₀ .tc) PUnit

/-- Chunk `i` rounded, stored and sent to device `n`. -/
def sendY (d n : Dev nD) (i : Fin 8) : Steps F := do
  let v : Vec F S1x128x512 .f32 ← Prog.lift (.load xM (xSent d i).toLoadRect (View.loadsAt_vmem h_S1x128x512))
  let _u : Vec F S128x512 .bf16 ← Prog.lift (.load sM (rows i).toLoadRect (View.loadsAt_vmem h_S128x512))
  Prog.lift (.store sM (rows i) (wire v) Finset.univ
    (View.stores_vmem h_S128x512 ((Memref.isWhole_whole cc0_scratch0).storeExact_slice rfl _ (rows_packed i)) (fun _ => rfl)) (.inl rfl))
  Prog.lift (.enqueueDma (chunk sM i) (.remote (Dev.tc n) (chunk yM i) (.dma (semAt cc0_scratch3 i).sem)) (.dma (semAt cc0_scratch4 i).sem)
    ((Memref.isWhole_whole cc0_scratch0).wordExact_slice rfl _ (rows_words i)) ((Memref.isWhole_whole cc0_scratch1).wordExact_slice rfl _ (rows_words i))
    ⟨⟨rfl, Or.inl rfl⟩, trivial⟩)

/-- Chunk `i` awaited along `y`, sent on to device `n`, and added to the device's own rows. -/
def relay (d n : Dev nD) (i : Fin 8) : Steps F := do
  Prog.lift (.waitDma2 (semAt cc0_scratch4 i).sem (chunk sM i) (chunk yM i)
    ((Memref.isWhole_whole cc0_scratch0).wordExact_slice rfl _ (rows_words i)) ((Memref.isWhole_whole cc0_scratch1).wordExact_slice rfl _ (rows_words i)))
  Prog.lift (.enqueueDma (chunk yM i) (.remote (Dev.tc n) (chunk rM i) (.dma (semAt cc0_scratch5 i).sem)) (.dma (semAt cc0_scratch6 i).sem)
    ((Memref.isWhole_whole cc0_scratch1).wordExact_slice rfl _ (rows_words i)) ((Memref.isWhole_whole cc0_scratch2).wordExact_slice rfl _ (rows_words i))
    ⟨⟨rfl, Or.inl rfl⟩, trivial⟩)
  let v : Vec F S1x128x512 .f32 ← Prog.lift (.load xM (xNear d i).toLoadRect (View.loadsAt_vmem h_S1x128x512))
  let w : Vec F S128x512 .bf16 ← Prog.lift (.load yM (rows i).toLoadRect (View.loadsAt_vmem h_S128x512))
  let _u : Vec F S128x512 .f32 ← Prog.lift (.load oM (oNear d i).toLoadRect (View.loadsAt_vmem h_S128x512))
  Prog.lift (.store oM (oNear d i) (summed v w) Finset.univ (View.stores_vmem_bits_univ h_S128x512 rfl) (.inl rfl))

/-- Chunk `i` awaited along `x` and added to the device's own rows. -/
def collect (d : Dev nD) (i : Fin 8) : Steps F := do
  Prog.lift (.waitDma2 (semAt cc0_scratch6 i).sem (chunk yM i) (chunk rM i)
    ((Memref.isWhole_whole cc0_scratch1).wordExact_slice rfl _ (rows_words i)) ((Memref.isWhole_whole cc0_scratch2).wordExact_slice rfl _ (rows_words i)))
  let v : Vec F S1x128x512 .f32 ← Prog.lift (.load xM (xFar d i).toLoadRect (View.loadsAt_vmem h_S1x128x512))
  let w : Vec F S128x512 .bf16 ← Prog.lift (.load rM (rows i).toLoadRect (View.loadsAt_vmem h_S128x512))
  let _u : Vec F S128x512 .f32 ← Prog.lift (.load oM (oFar d i).toLoadRect (View.loadsAt_vmem h_S128x512))
  Prog.lift (.store oM (oFar d i) (summed v w) Finset.univ (View.stores_vmem_bits_univ h_S128x512 rfl) (.inl rfl))

/-- Both copies of chunk `i` awaited on the sender's side. -/
def drain (i : Fin 8) : Steps F := do
  Prog.lift (.waitDma2 (semAt cc0_scratch3 i).sem (chunk yM i) (chunk sM i)
    ((Memref.isWhole_whole cc0_scratch1).wordExact_slice rfl _ (rows_words i)) ((Memref.isWhole_whole cc0_scratch0).wordExact_slice rfl _ (rows_words i)))
  Prog.lift (.waitDma2 (semAt cc0_scratch5 i).sem (chunk rM i) (chunk yM i)
    ((Memref.isWhole_whole cc0_scratch2).wordExact_slice rfl _ (rows_words i)) ((Memref.isWhole_whole cc0_scratch1).wordExact_slice rfl _ (rows_words i)))

/-- The handshake with two devices. -/
def handshake (n n' : Dev nD) : Steps F := do
  semSignalWord n barS 1#32
  semSignalWord n' barS 1#32
  semWaitWord barS 2#32

/-! ## The loops -/

/-- `f` at each chunk of a list, in order. -/
def forEach (f : Fin 8 → Steps F) : List (Fin 8) → Steps F
  | [] => pure ⟨⟩
  | i :: is => do f i; forEach f is

/-- The eight chunks, in the order every loop takes them. -/
abbrev chunks : List (Fin 8) := [0, 1, 2, 3, 4, 5, 6, 7]

/-- The kernel's body, by loops. -/
def looped : Steps F := do
  let d ← Prog.lift .deviceId
  handshake ⟨k0_dev1 d, k0_dev1_lt d⟩ ⟨k0_dev2 d, k0_dev2_lt d⟩
  forEach (fun i => sendY d (yDev d i) i) chunks
  forEach (fun i => relay d (xDev d i) i) chunks
  forEach (collect d) chunks
  forEach drain chunks

set_option maxRecDepth 65536 in
/-- The printed body is the loops. -/
theorem body_eq : cc0_body (F := F) xM (Memref.isWhole_whole _) oM (Memref.isWhole_whole _) sM (Memref.isWhole_whole _) yM (Memref.isWhole_whole _)
    rM (Memref.isWhole_whole _) cc0_scratch3 cc0_scratch4 cc0_scratch5 cc0_scratch6 = looped := by
  rw [cc0_body_eq_skeleton]
  rfl

end Cert.KernelIdealProof

end
-- ==== Proof.KernelIdealContents.lean ====
/-
What the buffers hold.

Devices sit on a 2 × 2 × 4 mesh with coordinates x, y, z. A device's two neighbours are the devices that differ from it in y
alone and in x alone. This module names them, says element by element what each buffer holds once its copies and stores are
done, and proves that one chunk's store, copy or load is what those descriptions say, for every chunk.
-/
module

public import proofs.«01_k».proof.Proof.KernelIdealProgram
public import Idealize.ShloMosaic.Lib.Tactic
public import Idealize.ShloMosaic.Lib.Pointwise.Index
public import Idealize.ShloMosaic.Lib.Pipeline.ValueKit.Geometry
public import Idealize.ShloMosaic.Lib.ValueLayout

@[expose] public section

noncomputable section

namespace Cert.KernelIdealProof

open Cert.KernelIdeal Cert.KernelIdeal.Gen
open Idealize.ShloMosaic Idealize.ShloMosaic.TcCoe

variable {F : FTy → Type} [FloatOps F]

/-! ## Neighbours -/

/-- A device's coordinate on the mesh's first axis. -/
abbrev mx (c : Dev nD) : ℕ := c.val / 8
/-- A device's coordinate on the mesh's second axis. -/
abbrev my (c : Dev nD) : ℕ := c.val / 4 % 2

theorem mx_lt (c : Dev nD) : mx c < 2 := by revert c; decide
theorem my_lt (c : Dev nD) : my c < 2 := by revert c; decide

/-- The neighbour along y. -/
def py (c : Dev nD) : Dev nD := ⟨(8 * (c.val / 8) + c.val % 4 + 4) - 4 * (c.val / 4 % 2), by revert c; decide⟩
/-- The neighbour along x. -/
def px (c : Dev nD) : Dev nD := ⟨(4 * (c.val / 4 % 2) + c.val % 4 + 8) - 8 * (c.val / 8), by revert c; decide⟩

theorem py_py (c : Dev nD) : py (py c) = c := by revert c; decide
theorem px_px (c : Dev nD) : px (px c) = c := by revert c; decide
theorem py_px (c : Dev nD) : py (px c) = px (py c) := by revert c; decide
theorem mx_py (c : Dev nD) : mx (py c) = mx c := by revert c; decide
theorem my_py (c : Dev nD) : my (py c) = 1 - my c := by revert c; decide
theorem mx_px (c : Dev nD) : mx (px c) = 1 - mx c := by revert c; decide
theorem my_px (c : Dev nD) : my (px c) = my c := by revert c; decide

/-- Every copy along y goes to the neighbour along y. -/
theorem yDev_eq (c : Dev nD) (i : Fin 8) : yDev c i = py c := by revert c i; decide +kernel
/-- Every copy along x goes to the neighbour along x. -/
theorem xDev_eq (c : Dev nD) (i : Fin 8) : xDev c i = px c := by revert c i; decide +kernel
/-- The handshake's first signal goes to the neighbour along y. -/
theorem dev1_eq (c : Dev nD) : (⟨k0_dev1 c, k0_dev1_lt c⟩ : Dev nD) = py c := by revert c; decide +kernel
/-- The handshake's second signal goes to the neighbour along x. -/
theorem dev2_eq (c : Dev nD) : (⟨k0_dev2 c, k0_dev2_lt c⟩ : Dev nD) = px c := by revert c; decide +kernel

/-! ## The descriptions -/

section
variable (X : Dev nD → (xM).view.ty.Contents (Elt F))

/-- Row `r` of device `c`'s block of `x`, column `j`. -/
def xAt (c : Dev nD) (r j : ℕ) (hr : r < 2048) (hj : j < 1024) : F .f32 := X c (ix3 (n0 := 1) (n1 := 2048) (n2 := 1024) 0 ⟨r, hr⟩ ⟨j, hj⟩)

/-- What device `c` sends along y: of its own half of the rows, the columns its neighbour keeps, rounded. -/
def sentAt (c : Dev nD) (r j : ℕ) (hr : r < 1024) (hj : j < 512) : F .bf16 :=
  FloatOps.truncf .bf16 bitsLt_bf16_f32 (xAt X c (1024 * mx c + r) (512 - 512 * my c + j) (by have := mx_lt c; omega) (by omega))

/-- The buffer of rows sent, filled. -/
def sent (c : Dev nD) : (sM).view.ty.Contents (Elt F) :=
  fun j => sentAt X c (j 0).val (j 1).val (j 0).isLt (j 1).isLt

/-- The device whose rounded rows are added to row `r` of device `c`'s result. -/
def source (c : Dev nD) (r : ℕ) : Dev nD := if r / 1024 = mx c then py c else py (px c)

/-- The result of device `c`: its own columns of its block of `x`, plus what its neighbour along y sent, plus, on the other
    half of the rows, what that neighbour's neighbour sent. -/
def outAt (c : Dev nD) : (oM).view.ty.Contents (Elt F) :=
  fun j => FloatOps.addf
    (xAt X c (j 0).val (512 * my c + (j 1).val) (j 0).isLt (by have := my_lt c; have := (j 1).isLt; change (j 1).val < 512 at this; omega))
    (FloatOps.extf .f32 bitsLt_bf16_f32 (sentAt X (source c (j 0).val) ((j 0).val % 1024) (j 1).val (Nat.mod_lt _ (by decide)) (j 1).isLt))

/-- The result holds its final values on the device's own half of the rows but for the chunks `near`, and on the other half but for the
    chunks `far`. -/
def Filled (c : Dev nD) (near far : List (Fin 8)) (f : (oM).view.ty.Contents (Elt F)) : Prop :=
  ∀ (j : S2048x512.Idx) (i : Fin 8), (j 0).val % 1024 / 128 = i.val →
    (if (j 0).val / 1024 = mx c then i ∉ near else i ∉ far) → f j = outAt X c j

theorem filled_none (c : Dev nD) (f : (oM).view.ty.Contents (Elt F)) : Filled X c chunks chunks f := by
  intro j i hi hj
  have h : i ∈ chunks := (by decide : ∀ i : Fin 8, i ∈ chunks) i
  split at hj <;> exact absurd h hj

/-- With no chunk missing, the result is what it should be. -/
theorem filled_all (c : Dev nD) (f : (oM).view.ty.Contents (Elt F)) (h : Filled X c [] [] f) : f = outAt X c :=
  funext fun j => h j ⟨(j 0).val % 1024 / 128, by omega⟩ rfl (by split <;> exact List.not_mem_nil)

theorem xAt_congr {c c' : Dev nD} {r r' j j' : ℕ} {hr hr' hj hj'} (h : c = c') (h₁ : r = r') (h₂ : j = j') :
    xAt X c r j hr hj = xAt X c' r' j' hr' hj' := by subst h h₁ h₂; rfl

theorem sentAt_congr {c c' : Dev nD} {r r' j j' : ℕ} {hr hr' hj hj'} (h : c = c') (h₁ : r = r') (h₂ : j = j') :
    sentAt X c r j hr hj = sentAt X c' r' j' hr' hj' := by subst h h₁ h₂; rfl

/-! ## Loads of `x` -/

/-- A window of `x` of one block, 128 rows and 512 columns, at a place. -/
theorem x_window (c : Dev nD) (off : Fin 3 → ℕ) (inb) (a b : ℕ) (ho : off = ![0, a, b])
    (y : Fin 128) (z : Fin 512) (h₁ : a + y.val < 2048) (h₂ : b + z.val < 1024) :
    xM.view.readAt (Elt F) (Rect.unit (s := S1x2048x1024) off S1x128x512.size inb).toLoadRect (X c) (ix3 (n0 := 1) 0 y z)
      = xAt X c (a + y.val) (b + z.val) h₁ h₂ := by
  subst ho
  refine congrArg (X c) (Rect.emb_eq_of_coords _ _ _ fun k => ?_)
  match k with
  | ⟨0, _⟩ => rfl
  | ⟨1, _⟩ => show a + y.val = a + 1 * y.val; omega
  | ⟨2, _⟩ => show b + z.val = b + 1 * z.val; omega

/-- A chunk rounded, element by element. -/
theorem wire_apply (v : Vec F S1x128x512 .f32) (y : Fin 128) (z : Fin 512) :
    wire v (ix2 y z) = FloatOps.truncf .bf16 bitsLt_bf16_f32 (v (ix3 (n0 := 1) 0 y z)) := by
  unfold wire
  rw [shapeCast_self]
  exact congrArg (FloatOps.truncf .bf16 bitsLt_bf16_f32) (ValueIdx.shapeCast_1ab_ab_apply v shapeCasts_S1x128x512_S128x512 y z)

/-- A chunk of `x` plus a chunk received, element by element. -/
theorem summed_apply (v : Vec F S1x128x512 .f32) (w : Vec F S128x512 .bf16) (y : Fin 128) (z : Fin 512) :
    summed v w (ix2 y z) = FloatOps.addf (v (ix3 (n0 := 1) 0 y z)) (FloatOps.extf .f32 bitsLt_bf16_f32 (w (ix2 y z))) := by
  unfold summed
  exact congrArg (fun t => FloatOps.addf t _) (ValueIdx.shapeCast_1ab_ab_apply v shapeCasts_S1x128x512_S128x512 y z)

/-! ## Chunks of the 1024-row buffers -/

/-- Where a chunk's element lies in its buffer. -/
theorem rows_emb_0 (i : Fin 8) (y : Fin 128) (z : Fin 512) : ((rows i).emb (ix2 y z) 0 : ℕ) = 128 * i.val + y.val := by
  rw [ValueKit.rect_emb_unit_val]; rfl
theorem rows_emb_1 (i : Fin 8) (y : Fin 128) (z : Fin 512) : ((rows i).emb (ix2 y z) 1 : ℕ) = z.val := by
  rw [ValueKit.rect_emb_unit_val]; exact Nat.zero_add _

/-- The store of chunk `i` of the rows to send leaves there what the buffer of rows sent holds, filled. -/
theorem store_sent (c : Dev nD) (i : Fin 8) (f : (sM).view.ty.Contents (Elt F)) :
    ∀ j ∈ (chunk sM i).view.set,
      (sM.access (rows i)).write (Elt F) f (wire (xM.view.readAt (Elt F) (xSent c i).toLoadRect (X c))) Finset.univ j = sent X c j := by
  intro j hj
  obtain ⟨y, -, rfl⟩ := Finset.mem_map.mp hj
  refine ((sM.access (rows i)).write_emb_of_mem f _ (Finset.mem_univ y)).trans ?_
  show wire _ y = sent X c ((rows i).emb y)
  obtain ⟨y0, y1, rfl⟩ : ∃ y0 y1, y = ix2 (n0 := 128) (n1 := 512) y0 y1 := ⟨_, _, (ix2_eta y).symm⟩
  rw [wire_apply]
  refine congrArg _ ((x_window X c _ _ _ _ (k0_off1_eq c i) y0 y1
    (by have := mx_lt c; have hm : mx c = c.val / 8 := rfl; have := y0.isLt; have := i.isLt; omega) (by have := y1.isLt; omega)).trans ?_)
  refine xAt_congr X rfl ?_ ?_
  · rw [rows_emb_0]; exact Nat.add_assoc _ _ _
  · rw [rows_emb_1]

/-- Chunk `i` of the rows to send, copied over chunk `i` of the rows received along y, lands as it was. -/
theorem copy_y (i : Fin 8) (f : (yM).view.ty.Contents (Elt F)) (g : (sM).view.ty.Contents (Elt F)) :
    ∀ j ∈ (chunk yM i).view.set, (chunk yM i).view.write (Elt F) f ((chunk sM i).view.read (Elt F) g) Finset.univ j = g j := by
  intro j hj
  obtain ⟨y, -, rfl⟩ := Finset.mem_map.mp hj
  exact (chunk yM i).view.write_emb_of_mem f _ (Finset.mem_univ y)

/-- Chunk `i` of the rows received along y, copied over chunk `i` of the rows received along x, lands as it was. -/
theorem copy_x (i : Fin 8) (f : (rM).view.ty.Contents (Elt F)) (g : (yM).view.ty.Contents (Elt F)) :
    ∀ j ∈ (chunk rM i).view.set, (chunk rM i).view.write (Elt F) f ((chunk yM i).view.read (Elt F) g) Finset.univ j = g j := by
  intro j hj
  obtain ⟨y, -, rfl⟩ := Finset.mem_map.mp hj
  exact (chunk rM i).view.write_emb_of_mem f _ (Finset.mem_univ y)

/-- A chunk loaded from a buffer that holds what device `c` sent. -/
theorem load_sent (c : Dev nD) (i : Fin 8) (y : Fin 128) (z : Fin 512) :
    (yM.view.readAt (Elt F) (rows i).toLoadRect (sent X c)) (ix2 y z)
      = sentAt X c (128 * i.val + y.val) z.val (by have := y.isLt; have := i.isLt; omega) z.isLt :=
  (show _ = sent X c ((rows i).emb (ix2 y z)) from rfl).trans
    (sentAt_congr X rfl (rows_emb_0 i y z) (rows_emb_1 i y z))

/-! ## Stores of the result -/

/-- A store of 128 rows of the result, from row `a` on, of a window of the device's own columns plus a chunk `i` that device `e` sent. Where the rows
    are those for which `e` is the source and `128 i` the row modulo 1024, the store leaves the final values there, and the other rows as
    they were. -/
theorem store_out (c e : Dev nD) (i : Fin 8) (off : Fin 2 → ℕ) (inb) (a : ℕ) (ho : off = ![a, 0]) (v : Vec F S1x128x512 .f32)
    (ha : a + 128 ≤ 2048) (hi : a % 1024 = 128 * i.val) (he : ∀ y < 128, source c (a + y) = e)
    (hv : ∀ (y : Fin 128) (z : Fin 512), v (ix3 (n0 := 1) 0 y z)
      = xAt X c (a + y.val) (512 * my c + z.val) (by have := y.isLt; omega) (by have := my_lt c; have := z.isLt; omega))
    (f : (oM).view.ty.Contents (Elt F)) (j : S2048x512.Idx) :
    (oM.access (Rect.unit (s := S2048x512) off S128x512.size inb)).write (Elt F) f
        (summed v (yM.view.readAt (Elt F) (rows i).toLoadRect (sent X e))) Finset.univ j
      = if a ≤ (j 0).val ∧ (j 0).val < a + 128 then outAt X c j else f j := by
  subst ho
  set r : Rect S2048x512 := Rect.unit (s := S2048x512) ![a, 0] S128x512.size inb
  by_cases hj : a ≤ (j 0).val ∧ (j 0).val < a + 128
  · rw [if_pos hj]
    have hj1 : (j 1).val < 512 := (j 1).isLt
    obtain ⟨y, hy⟩ : ∃ y : Fin 128, a + y.val = (j 0).val := ⟨⟨(j 0).val - a, by omega⟩, by show a + ((j 0).val - a) = _; omega⟩
    obtain ⟨z, hz⟩ : ∃ z : Fin 512, z.val = (j 1).val := ⟨⟨(j 1).val, hj1⟩, rfl⟩
    have hemb : r.emb (ix2 (n0 := 128) (n1 := 512) y z) = j := Rect.emb_eq_of_coords _ _ _ fun k => by
      match k with
      | ⟨0, _⟩ => show (j 0).val = a + 1 * y.val; omega
      | ⟨1, _⟩ => show (j 1).val = 0 + 1 * z.val; omega
    have hw := (oM.access r).write_emb_of_mem f (summed v (yM.view.readAt (Elt F) (rows i).toLoadRect (sent X e)))
      (Finset.mem_univ (ix2 (n0 := 128) (n1 := 512) y z))
    rw [show (oM.access r).emb (ix2 (n0 := 128) (n1 := 512) y z) = j from hemb] at hw
    refine hw.trans ((summed_apply v _ y z).trans ?_)
    rw [hv, load_sent]
    unfold outAt
    refine congr (congrArg _ (xAt_congr X rfl hy (by rw [hz]))) (congrArg _ (sentAt_congr X ?_ ?_ hz))
    · rw [← hy]; exact (he y.val y.isLt).symm
    · have := y.isLt; have := i.isLt; omega
  · rw [if_neg hj]
    refine (oM.access r).write_of_not_mem f _ _ (i := j) fun hm => ?_
    obtain ⟨y, -, hy⟩ := Finset.mem_map.mp hm
    refine hj ?_
    have h0 : (j 0).val = a + (y 0).val := by
      rw [← hy]
      show a + 1 * (y 0).val = _
      omega
    have := (y 0).isLt
    change (y 0).val < 128 at this
    omega

/-- The second loop's store of chunk `i` fills that chunk of the device's own half of the rows. -/
theorem store_near (c : Dev nD) (i : Fin 8) (near far : List (Fin 8)) (f : (oM).view.ty.Contents (Elt F)) (hf : Filled X c (i :: near) far f) :
    Filled X c near far ((oM.access (oNear c i)).write (Elt F) f
      (summed (xM.view.readAt (Elt F) (xNear c i).toLoadRect (X c)) (yM.view.readAt (Elt F) (rows i).toLoadRect (sent X (py c)))) Finset.univ) := by
  have hx := mx_lt c
  have hm : mx c = c.val / 8 := rfl
  have hi := i.isLt
  intro j k hk hj
  rw [store_out X c (py c) i _ _ _ (k0_off3_eq c i) _ (by omega) (by omega)
    (fun y hy => if_pos (by omega))
    (fun y z => (x_window X c _ _ _ _ (k0_off2_eq c i) y z (by have := y.isLt; omega) (by have := z.isLt; omega)))]
  split
  · rfl
  · refine hf j k hk ?_
    split at hj
    · rw [if_pos ‹_›, List.mem_cons, not_or]; exact ⟨fun h => by subst h; omega, hj⟩
    · rw [if_neg ‹_›]; exact hj

/-- The third loop's store of chunk `i` fills that chunk of the other half of the rows. -/
theorem store_far (c : Dev nD) (i : Fin 8) (near far : List (Fin 8)) (f : (oM).view.ty.Contents (Elt F)) (hf : Filled X c near (i :: far) f) :
    Filled X c near far ((oM.access (oFar c i)).write (Elt F) f
      (summed (xM.view.readAt (Elt F) (xFar c i).toLoadRect (X c)) (rM.view.readAt (Elt F) (rows i).toLoadRect (sent X (py (px c))))) Finset.univ) := by
  have hx := mx_lt c
  have hm : mx c = c.val / 8 := rfl
  have hi := i.isLt
  intro j k hk hj
  have h0 : (j 0).val < 2048 := (j 0).isLt
  refine (store_out X c (py (px c)) i _ _ _ (k0_off5_eq c i) _ (by omega) (by omega)
    (fun y hy => if_neg (by omega))
    (fun y z => (x_window X c _ _ _ _ (k0_off4_eq c i) y z (by have := y.isLt; omega) (by have := z.isLt; omega))) f j).trans ?_
  split
  · rfl
  · refine hf j k hk ?_
    split at hj
    · rw [if_pos ‹_›]; exact hj
    · rw [if_neg ‹_›, List.mem_cons, not_or]; exact ⟨fun h => by subst h; omega, hj⟩

end

end Cert.KernelIdealProof

end
-- ==== Proof.KernelIdealProtocol.lean ====
/-
The protocol of the semaphores.

Every device has a barrier semaphore and, for each chunk, four DMA semaphores: one for the send along y, one for the arrival
along y, one for the send along x and one for the arrival along x. Each is a cell of one round. This module numbers the cells,
says what passes with each of them, what each device owes at launch, and the levels that order the waits.

  barrier            two units: the neighbour along y hands over its buffer for arrivals along y, the neighbour along x its
                     buffer for arrivals along x — the buffers the device then writes by remote copies
  send along y       the chunk of rows sent, back
  arrival along y    the chunk of the buffer for arrivals along y, holding what the neighbour along y sent
  send along x       the half share of that chunk that was lent to the copy along x, back
  arrival along x    the chunk of the buffer for arrivals along x, holding what the neighbour along x passed on
-/
module

public import proofs.«01_k».proof.Proof.KernelIdealContents
public import proofs.«01_k».proof.Proof.Gen.KernelIdeal.Launch
public import Idealize.ShloMosaic.Lib.Pipeline.Launch
public import Idealize.ShloMosaic.Lib.Pipeline.Kit
public import Idealize.ShloMosaic.Lib.Pipeline.BigSepL

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The cells' ghost state, and with it the pipeline's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The kinds of DMA semaphores: send along y, arrival along y, send along x, arrival along x. -/
abbrev ySend : Fin 4 := 0
abbrev yArr : Fin 4 := 1
abbrev xSend : Fin 4 := 2
abbrev xArr : Fin 4 := 3

/-- The semaphore of a kind and a chunk. -/
def dsem : Fin 4 → Fin 8 → DmaSem sig
  | 0, i => (semAt cc0_scratch3 i).sem | 1, i => (semAt cc0_scratch4 i).sem
  | 2, i => (semAt cc0_scratch5 i).sem | 3, i => (semAt cc0_scratch6 i).sem

/-- A device's cells: the barrier, and one per kind and chunk. -/
abbrev Slot : Type := Option (Fin 4 × Fin 8)

def ssem : Slot → SemLoc sig
  | none => .reg barS
  | some ki => .dma (dsem ki.1 ki.2)

/-- Which cell a semaphore is. -/
def slotOf : SemLoc sig → Option Slot
  | .reg s => if s = barS then some none else none
  | .dma q => if h : 2 ≤ q.val ∧ q.val < 34 then some (some (⟨(q.val - 2) / 8, by omega⟩, ⟨(q.val - 2) % 8, by omega⟩)) else none

theorem slotOf_ssem : ∀ s : Slot, slotOf (ssem s) = some s := by decide

theorem ssem_injective : Function.Injective ssem := fun a b h => by
  have := slotOf_ssem a
  rw [h, slotOf_ssem b] at this
  exact (Option.some.inj this).symm

/-- Device `c`'s cell. -/
abbrev cell (c : Dev nD) (s : Slot) : GSem nD τ sig := ((c : Thread nD τ), ssem s)

theorem cell_inj {c c' : Dev nD} {s s' : Slot} : cell c s = cell c' s' ↔ c = c' ∧ s = s' := by
  constructor
  · intro h
    exact ⟨Fin.ext (congrArg (fun g : GSem nD τ sig => g.1.1.val) h), ssem_injective (congrArg Prod.snd h)⟩
  · rintro ⟨rfl, rfl⟩; rfl

/-- What a chunk's copy credits. -/
def N : ℕ := (chunk sM 0).view.dmaCredit
theorem N_pos : 0 < N := View.dmaCredit_pos _ (by decide)
theorem credit_s (i : Fin 8) : (chunk sM i).view.dmaCredit = N := rfl
theorem credit_y (i : Fin 8) : (chunk yM i).view.dmaCredit = N := rfl
theorem credit_r (i : Fin 8) : (chunk rM i).view.dmaCredit = N := rfl

/-! ## What passes -/

/-- Device `c`'s chunk `i` of a 1024-row buffer, at a share and contents. -/
abbrev chunkPts (a : Memref sig .tc .vmem S1024x512 .bf16) (c : Dev nD) (i : Fin 8) (q : PosShare TreeShare)
    (f : Buf (Elt F) ((chunk a i).view.loc (c : Thread nD τ))) : sProp 𝕄 :=
  (chunk a i).view.loc (c : Thread nD τ) ↦[(chunk a i).view.set]{q} f

/-- Device `c`'s chunk `i` of a 1024-row buffer, holding anything. -/
def chunkAny (a : Memref sig .tc .vmem S1024x512 .bf16) (c : Dev nD) (i : Fin 8) : sProp 𝕄 := iprop(∃ f, chunkPts a c i fullShare f)

section Sched
variable (X : Dev nD → (xM).view.ty.Contents (Elt F))

/-- What passes with each duty of each cell of device `c`. -/
def pay (c : Dev nD) : Option Slot → Bool → sProp 𝕄
  | some none, true => bigSepL chunks fun i => chunkAny yM (py c) i
  | some none, false => bigSepL chunks fun i => chunkAny rM (px c) i
  | some (some (0, i)), _ => chunkPts sM c i fullShare (sent X c)
  | some (some (1, i)), _ => chunkPts yM c i fullShare (sent X (py c))
  | some (some (2, i)), _ => chunkPts yM c i fullShare.right (sent X (py c))
  | some (some (3, i)), _ => chunkPts rM c i fullShare (sent X (py (px c)))
  | none, _ => iprop(emp)

omit [FloatOps F] in
instance chunkAny_storable (a : Memref sig .tc .vmem S1024x512 .bf16) (c : Dev nD) (i : Fin 8) :
    BI.Storable (upEmb : UEmb _ 𝕄) (chunkAny (F := F) a c i) := by unfold chunkAny; infer_instance

omit [FloatOps F] in
theorem storable_list {I : Type} (l : List I) (Φ : I → sProp 𝕄) (h : ∀ i, BI.Storable (upEmb : UEmb _ 𝕄) (Φ i)) :
    BI.Storable (upEmb : UEmb _ 𝕄) (bigSepL l Φ) := by
  induction l with
  | nil => exact (inferInstance : BI.Storable (upEmb : UEmb _ 𝕄) iprop(emp))
  | cons i l ih => rw [bigSepL_cons']; infer_instance

instance pay_storable (c : Dev nD) (s : Option Slot) (d : Bool) : BI.Storable (upEmb : UEmb _ 𝕄) (pay X c s d) := by
  unfold pay; split
  · exact storable_list _ _ fun i => inferInstance
  · exact storable_list _ _ fun i => inferInstance
  all_goals infer_instance

/-- One round: a barrier's two duties of a unit, and the one duty of every other cell. -/
def sched : Rounds.Schedule (GSem nD τ sig) Bool 𝕄 where
  duties g r := if r = 0 ∧ g.1.2 = .tc then (match slotOf g.2 with | some none => Finset.univ | some (some _) => {false} | none => ∅) else ∅
  unitless _ := False
  amount g _ _ := if slotOf g.2 = some none then 1 else N
  payload g _ d := pay X g.1.1 (slotOf g.2) d
  amount_pos g _ _ _ := by
    split
    · exact Nat.one_pos
    · exact N_pos

instance sched_storable (g : GSem nD τ sig) (r : ℕ) (d : Bool) : BI.Storable (upEmb : UEmb _ 𝕄) ((sched X).payload g r d) :=
  pay_storable X g.1.1 (slotOf g.2) d

theorem duties_bar (c : Dev nD) : (sched X).duties (cell c none) 0 = Finset.univ := by
  dsimp only [sched]; rw [if_pos ⟨rfl, rfl⟩, slotOf_ssem]
theorem duties_dma (c : Dev nD) (ki : Fin 4 × Fin 8) : (sched X).duties (cell c (some ki)) 0 = {false} := by
  dsimp only [sched]; rw [if_pos ⟨rfl, rfl⟩, slotOf_ssem]
theorem duties_later (g : GSem nD τ sig) : ∀ r, 1 ≤ r → (sched X).duties g r = ∅ :=
  fun r hr => by dsimp only [sched]; exact if_neg fun h => by omega
theorem amount_bar (c : Dev nD) (d : Bool) : (sched X).amount (cell c none) 0 d = 1 := by
  dsimp only [sched]; rw [slotOf_ssem]; exact if_pos rfl
theorem amount_dma (c : Dev nD) (ki : Fin 4 × Fin 8) (d : Bool) : (sched X).amount (cell c (some ki)) 0 d = N := by
  dsimp only [sched]; rw [slotOf_ssem]; exact if_neg fun h => by cases h
theorem payload_eq (c : Dev nD) (s : Slot) (d : Bool) : (sched X).payload (cell c s) 0 d = pay X c (some s) d := by
  dsimp only [sched]; rw [slotOf_ssem]

theorem expect_bar (c : Dev nD) : (sched X).expect (cell c none) 0 = 2 := by
  unfold Schedule.expect Schedule.amountOf
  rw [duties_bar, Finset.sum_congr rfl fun d _ => amount_bar X c d]; rfl
theorem expect_dma (c : Dev nD) (ki : Fin 4 × Fin 8) : (sched X).expect (cell c (some ki)) 0 = N := by
  unfold Schedule.expect Schedule.amountOf; rw [duties_dma, Finset.sum_singleton, amount_dma]

/-- All that a barrier's round passes. -/
theorem rest_bar (c : Dev nD) : bigSep ((sched X).duties (cell c none) 0 \ ∅) (fun d => (sched X).payload (cell c none) 0 d)
    = iprop(pay X c (some none) false ∗ pay X c (some none) true) := by
  rw [Finset.sdiff_empty, duties_bar, bigSep_univ_eq_bigSepL [false, true] (by decide) (by decide), bigSepL_cons_cons, bigSepL_singleton,
    payload_eq, payload_eq]
  rfl
/-- All that another cell's round passes. -/
theorem rest_dma (c : Dev nD) (ki : Fin 4 × Fin 8) :
    bigSep ((sched X).duties (cell c (some ki)) 0 \ ∅) (fun d => (sched X).payload (cell c (some ki)) 0 d) = pay X c (some (some ki)) false := by
  rw [Finset.sdiff_empty, duties_dma, bigSep_singleton, payload_eq]

end Sched

/-! ## What is owed -/

/-- The credit owed the cells `s i` of device `d`, `i` in a list, on top of `O`. -/
def due (d : Dev nD) (k : Fin 4) (O : CellTallies nD τ sig Unit) : List (Fin 8) → CellTallies nD τ sig Unit
  | [] => O
  | i :: is => due d k O is + tallyAt (cell d (some (k, i))) () N

/-- What device `c` owes while the copies along x of a list of chunks are still to be started. -/
def dueX (c : Dev nD) (l : List (Fin 8)) : CellTallies nD τ sig Unit := due (px c) xArr 0 l
/-- What it owes while the copies along y of a list of chunks are still to be started, too. -/
def dueY (c : Dev nD) (l : List (Fin 8)) : CellTallies nD τ sig Unit := due (py c) yArr (dueX c chunks) l
/-- What it owes once it has signalled the neighbour along y. -/
def dueB (c : Dev nD) : CellTallies nD τ sig Unit := dueY c chunks + tallyAt (cell (px c) none) () 1
/-- What it owes at launch. -/
def due₀ (c : Dev nD) : CellTallies nD τ sig Unit := dueB c + tallyAt (cell (py c) none) () 1

/-- What `due` owes a cell. -/
theorem due_apply (d : Dev nD) (k : Fin 4) (O : CellTallies nD τ sig Unit) (l : List (Fin 8)) (hl : l.Nodup) (c : Dev nD) (s : Slot) :
    due d k O l (cell c s) () = O (cell c s) () + if c = d ∧ ∃ i ∈ l, s = some (k, i) then N else 0 := by
  induction l with
  | nil => rw [if_neg (by rintro ⟨-, i, hi, -⟩; cases hi)]; rfl
  | cons i l ih =>
    have hil := (List.nodup_cons.mp hl).1
    show due d k O l (cell c s) () + tallyAt (cell d (some (k, i))) () N (cell c s) () = _
    rw [ih (List.nodup_cons.mp hl).2, tallyAt_apply, Nat.add_assoc]
    congr 1
    by_cases h : c = d ∧ s = some (k, i)
    · rw [if_pos (show cell c s = cell d (some (k, i)) ∧ () = () from ⟨cell_inj.mpr h, rfl⟩), if_neg, if_pos, Nat.zero_add]
      · exact ⟨h.1, i, List.mem_cons_self, h.2⟩
      · rintro ⟨-, i', hi', h'⟩
        rw [h.2] at h'
        cases h'
        exact hil hi'
    · rw [if_neg (show ¬ (cell c s = cell d (some (k, i)) ∧ () = ()) from fun h' => h (cell_inj.mp h'.1)), Nat.add_zero]
      refine if_congr ⟨?_, ?_⟩ rfl rfl
      · rintro ⟨h1, i', hi', h2⟩; exact ⟨h1, i', List.mem_cons_of_mem _ hi', h2⟩
      · rintro ⟨h1, i', hi', h2⟩
        rcases List.mem_cons.mp hi' with rfl | hi'
        · exact absurd ⟨h1, h2⟩ h
        · exact ⟨h1, i', hi', h2⟩

/-- Only cells are owed. -/
theorem due_pos (d : Dev nD) (k : Fin 4) (O : CellTallies nD τ sig Unit) (l : List (Fin 8)) (g : GSem nD τ sig) (u : Unit)
    (h : 0 < due d k O l g u) : 0 < O g u ∨ ∃ i, g = cell d (some (k, i)) := by
  induction l with
  | nil => exact Or.inl h
  | cons i l ih =>
    change 0 < due d k O l g u + tallyAt (cell d (some (k, i))) () N g u at h
    by_cases hg : g = cell d (some (k, i))
    · exact Or.inr ⟨i, hg⟩
    · rw [tallyAt_apply, if_neg fun h' => hg h'.1, Nat.add_zero] at h
      exact ih h

theorem dueX_pos {c : Dev nD} {l : List (Fin 8)} {g : GSem nD τ sig} {u : Unit} (h : 0 < dueX c l g u) : ∃ i, g = cell (px c) (some (xArr, i)) :=
  (due_pos _ _ _ _ _ _ h).resolve_left fun h => absurd h (Nat.lt_irrefl 0)

theorem dueY_pos {c : Dev nD} {l : List (Fin 8)} {g : GSem nD τ sig} {u : Unit} (h : 0 < dueY c l g u) :
    (∃ i, g = cell (px c) (some (xArr, i))) ∨ ∃ i, g = cell (py c) (some (yArr, i)) :=
  (due_pos _ _ _ _ _ _ h).imp dueX_pos id

theorem due₀_pos {c : Dev nD} {g : GSem nD τ sig} {u : Unit} (h : 0 < due₀ c g u) :
    (∃ i, g = cell (px c) (some (xArr, i))) ∨ (∃ i, g = cell (py c) (some (yArr, i))) ∨ g = cell (px c) none ∨ g = cell (py c) none := by
  unfold due₀ dueB at h
  rw [Pi.add_apply, Finsupp.add_apply, Pi.add_apply, Finsupp.add_apply] at h
  by_cases h1 : g = cell (px c) none
  · exact .inr (.inr (.inl h1))
  by_cases h2 : g = cell (py c) none
  · exact .inr (.inr (.inr h2))
  rw [tallyAt_apply, tallyAt_apply, if_neg fun h' => h1 h'.1, if_neg fun h' => h2 h'.1, Nat.add_zero] at h
  rcases dueY_pos h with h | h
  · exact .inl h
  · exact .inr (.inl h)

/-! ## The levels -/

/-- Arrivals along x above arrivals along y, these above the barrier, and this above all else. -/
def lvl : Option Slot → ℕ
  | some none => 1
  | some (some (1, _)) => 2
  | some (some (3, _)) => 3
  | _ => 0

def L (g : GSem nD τ sig) : Finset Unit := if g.1.2 = .tc then {()} else ∅
def lv (g : GSem nD τ sig) (_ : Unit) : ℕ := lvl (slotOf g.2)

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _
theorem lv_cell (c : Dev nD) (s : Slot) (u : Unit) : lv (cell c s) u = lvl (some s) := by unfold lv; rw [slotOf_ssem]

omit [FloatOps F] in
/-- A wait is allowed below everything owed. -/
theorem mayWait_below (c : Dev nD) (sm : SemLoc sig) (O : CellTallies nD τ sig Unit) (b : ℕ) (hb : lvl (slotOf sm) ≤ b)
    (hO : ∀ g u, 0 < O g u → ∃ d s, g = cell d s ∧ b < lvl (some s)) :
    (levAts L lv : sProp 𝕄) ⊢ MayWait (c : Thread nD τ) sm () O :=
  MayOwe.of_cut (L := L) (lev := lv) b (fun p hp => by rw [Finset.mem_singleton.mp hp]; exact mem_L c sm ())
    (fun g u hg => by obtain ⟨d, s, rfl, -⟩ := hO g u hg; exact mem_L d _ u)
    (fun p hp => by rw [Finset.mem_singleton.mp hp]; exact hb)
    (fun g u hg => by obtain ⟨d, s, rfl, h⟩ := hO g u hg; rw [lv_cell]; exact h)

omit [FloatOps F] in
/-- With nothing owed, every wait is allowed. -/
theorem mayWait_free (c : Dev nD) (sm : SemLoc sig) : (levAts L lv : sProp 𝕄) ⊢ MayWait (c : Thread nD τ) sm () 0 := by
  rw [MayWait_zero]; iintro -; iempintro

omit [FloatOps F] in
/-- The barrier may be awaited while copies along y and x are owed. -/
theorem mayWait_bar (c : Dev nD) : (levAts L lv : sProp 𝕄) ⊢ MayWait (c : Thread nD τ) (ssem none) () (dueY c chunks) :=
  mayWait_below c _ _ 1 (by rw [slotOf_ssem]; decide) fun g u hg => by
    rcases dueY_pos hg with ⟨i, h⟩ | ⟨i, h⟩
    · exact ⟨_, _, h, by show 1 < 3; decide⟩
    · exact ⟨_, _, h, by show 1 < 2; decide⟩

omit [FloatOps F] in
/-- An arrival along y may be awaited while copies along x are owed. -/
theorem mayWait_yArr (c : Dev nD) (i : Fin 8) (l : List (Fin 8)) :
    (levAts L lv : sProp 𝕄) ⊢ MayWait (c : Thread nD τ) (ssem (some (yArr, i))) () (dueX c l) :=
  mayWait_below c _ _ 2 (by rw [slotOf_ssem]; exact le_refl 2) fun g u hg => by
    obtain ⟨j, h⟩ := dueX_pos hg
    exact ⟨_, _, h, by show 2 < 3; decide⟩

omit [FloatOps F] in
/-- A semaphore that is no cell of the protocol may be awaited whatever is owed at launch. -/
theorem mayWait_other (c : Dev nD) (sm : SemLoc sig) (h0 : slotOf sm = none) : (levAts L lv : sProp 𝕄) ⊢ MayWait (c : Thread nD τ) sm () (due₀ c) :=
  mayWait_below c _ _ 0 (by rw [h0]; exact le_refl 0) fun g u hg => by
    rcases due₀_pos hg with ⟨i, h⟩ | ⟨i, h⟩ | h | h
    · exact ⟨_, _, h, by show 0 < 3; decide⟩
    · exact ⟨_, _, h, by show 0 < 2; decide⟩
    · exact ⟨_, _, h, by show 0 < 1; decide⟩
    · exact ⟨_, _, h, by show 0 < 1; decide⟩

end Cert.KernelIdealProof

end
-- ==== Proof.KernelIdealSteps.lean ====
/-
One step of each loop.

For a device `c` and a chunk `i`, what each loop's body needs and what it leaves: the copy along y started; the arrival along
y passed on and added; the arrival along x added; both sends awaited. Each is proved once, for every device and chunk.
-/
module

public import proofs.«01_k».proof.Proof.KernelIdealProtocol

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` may run `p` and end with `Kt`. -/
abbrev Runs (c : Dev nD) (p : Steps F) (Kt : PUnit → sProp 𝕄) : sProp 𝕄 :=
  wp frame (wpE (defs₀ (F := F)) 𝒱₀ (c : Thread nD τ) none) Set.univ p Kt

variable (X : Dev nD → (xM).view.ty.Contents (Elt F))

/-! ## What every device knows -/

/-- The cells' invariants under names `K`, that every cell has reached its round, and the levels. -/
def records (K : Dev nD × Slot → ℕ) : sProp 𝕄 :=
  iprop((bigSep Finset.univ fun ck : Dev nD × Slot => cellInv ER (sched X) (K ck) (cell ck.1 ck.2))
    ∗ (bigSep Finset.univ fun ck : Dev nD × Slot => reached ER (cell ck.1 ck.2) 0) ∗ levAts L lv)

instance records_persistent (K : Dev nD × Slot → ℕ) : BI.Persistent (records X K) := by unfold records; infer_instance

variable (K : Dev nD × Slot → ℕ)

theorem inv_of (c : Dev nD) (s : Slot) : records X K ⊢ cellInv ER (sched X) (K (c, s)) (cell c s) := by
  have h : (bigSep Finset.univ fun ck : Dev nD × Slot => (cellInv ER (sched X) (K ck) (cell ck.1 ck.2) : sProp 𝕄)) ⊢ cellInv ER (sched X) (K (c, s)) (cell c s) :=
    bigSep_elim (Finset.mem_univ (c, s))
  unfold records
  iintro ⟨H, -⟩
  iapply h
  iexact H

theorem reached_of (c : Dev nD) (s : Slot) : records X K ⊢ reached ER (cell c s) 0 := by
  have h : (bigSep Finset.univ fun ck : Dev nD × Slot => (reached ER (cell ck.1 ck.2) 0 : sProp 𝕄)) ⊢ reached ER (cell c s) 0 :=
    bigSep_elim (Finset.mem_univ (c, s))
  unfold records
  iintro ⟨-, H, -⟩
  iapply h
  iexact H

theorem levs_of : records X K ⊢ levAts L lv := by
  unfold records
  iintro ⟨-, -, H⟩
  iexact H

/-! ## What a step holds -/

/-- The device's block of `x`. -/
abbrev xPts (c : Dev nD) : sProp 𝕄 := ((c : Thread nD τ).loc cc0_stg0_0) ↦{fullShare} X c

/-- The result, short of some chunks on either half. -/
def outPts (c : Dev nD) (near far : List (Fin 8)) : sProp 𝕄 :=
  iprop(∃ f : Buf (Elt F) ((c : Thread nD τ).loc cc0_stg1_0), ⌜Filled X c near far f⌝ ∗ (((c : Thread nD τ).loc cc0_stg1_0) ↦{fullShare} f))

/-- What the device owes, whatever it has awaited. -/
def owing (c : Dev nD) (O : CellTallies nD τ sig Unit) : sProp 𝕄 := iprop(∃ W : Waits sig Unit, owes (c : Thread nD τ) O W)

/-- One unit of credit for every byte of a chunk, at a cell of device `c`. -/
abbrev arrival (c : Dev nD) (ki : Fin 4 × Fin 8) : sProp 𝕄 := cred (tallyAt (cell c (some ki)) () N)
/-- The right to signal a cell. -/
abbrev ticket (c : Dev nD) (ki : Fin 4 × Fin 8) : sProp 𝕄 := dutyTok ER (cell c (some ki)) 0 false
/-- The cell, not yet awaited; and awaited. -/
abbrev fresh (c : Dev nD) (s : Slot) : sProp 𝕄 := atPos ER (cell c s) 0 ∅ 0
abbrev spent (c : Dev nD) (s : Slot) : sProp 𝕄 := atPos ER (cell c s) 1 ∅ 0

/-! ## A wait for a DMA cell -/

/-- Awaiting a DMA cell of its own, a device gets what passes with the cell. -/
theorem wait_dma (a b : Memref sig .tc .vmem S1024x512 .bf16) (c : Dev nD) (k₀ : Fin 4) (i : Fin 8) (O : CellTallies nD τ sig Unit)
    {hsrc : (chunk a i).view.WordExact} {hdst : (chunk b i).view.WordExact} (hN : (chunk b i).view.dmaCredit = N)
    (hm : (levAts L lv : sProp 𝕄) ⊢ MayWait (c : Thread nD τ) (ssem (some (k₀, i))) () O)
    (k : PUnit → Steps F) (Kt : PUnit → sProp 𝕄) :
    iprop(records X K ∗ arrival c (k₀, i) ∗ owing c O ∗ fresh c (some (k₀, i))
        ∗ ((owing c O ∗ spent c (some (k₀, i)) ∗ pay X c (some (some (k₀, i))) false) -∗ Runs c (k ⟨⟩) Kt))
      ⊢ Runs c (.op (.waitDma2 (dsem k₀ i) (chunk a i) (chunk b i) hsrc hdst) k) Kt := by
  have h := (@levs_of F _ X K).trans hm
  have hw : ∀ Q : PUnit → sProp 𝕄, wpE (defs₀ (F := F)) 𝒱₀ (c : Thread nD τ) none Set.univ (.waitDma2 (dsem k₀ i) (chunk a i) (chunk b i) hsrc hdst) Q
      = waitSpec (c : Thread nD τ) Set.univ (ssem (some (k₀, i))) N Q := fun Q => by
    rw [← hN]; exact wpE_waitDma2_eq 𝒱₀ (c : Thread nD τ) none Set.univ Q
  unfold owing
  iintro ⟨#HR, Hc, ⟨%W, HO⟩, Hat, Hk⟩
  iapply (Rounds.wp_wait_rest_token 𝒱₀ ER (sched X) (c : Thread nD τ) none (κ := K (c, some (k₀, i))) hw (Set.mem_univ _) ()
      (O := O) (W := W) (R := 0) (m := 0) (T := ∅) (by rw [Nat.zero_add]; exact (expect_dma X c (k₀, i)).symm)) $$ [Hc HO Hat]
  · isplitr; · iapply (inv_of X K c (some (k₀, i))); iexact HR
    isplitl [Hc]; · iexact Hc
    isplitl [HO]; · iexact HO
    isplitr; · iapply h; iexact HR
    iexact Hat
  iintro ⟨HO, Hat, -, Hpay⟩
  ihave Hp := (Entails.of_eq (rest_dma X c (k₀, i))) $$ Hpay
  iapply Hk
  isplitl [HO]; · iexists _; iexact HO
  isplitl [Hat]; · iexact Hat
  iexact Hp

/-! ## A copy of a chunk -/

/-- Starting a copy of a chunk to a chunk of device `n`, a device hands over both, pays off what it owes the arrival, and gets the
    credit of its own send. -/
theorem send_chunk (a b : Memref sig .tc .vmem S1024x512 .bf16) (c n : Dev nD) (i : Fin 8) (k₁ k₂ : Fin 4) (q : PosShare TreeShare)
    (fs : Buf (Elt F) ((chunk a i).view.loc (c : Thread nD τ))) (fd : Buf (Elt F) ((chunk b i).view.loc (n : Thread nD τ)))
    (O : CellTallies nD τ sig Unit) {hsc : (chunk b i).view.ref.isScScratch = false}
    {hsrc : (chunk a i).view.WordExact} {hdst : (chunk b i).view.WordExact}
    {hsem : DmaTarget.Typed .vmem (ssem (some (k₂, i))) (.remote (n : Thread nD τ) (chunk b i) (ssem (some (k₁, i))) hsc)}
    (hN : (chunk b i).view.amount (ssem (some (k₂, i))) = N)
    (hpay₁ : chunkPts a c i q fs ⊢ pay X c (some (some (k₁, i))) false)
    (hpay₂ : chunkPts b n i fullShare ((chunk b i).view.write (Elt F) fd ((chunk a i).view.read (Elt F) fs) Finset.univ)
      ⊢ pay X n (some (some (k₂, i))) false)
    (k : PUnit → Steps F) (Kt : PUnit → sProp 𝕄) :
    iprop(records X K ∗ chunkPts a c i q fs ∗ chunkPts b n i fullShare fd ∗ owing c (O + tallyAt (cell n (some (k₂, i))) () N)
        ∗ ticket c (k₁, i) ∗ ticket n (k₂, i) ∗ ((arrival c (k₁, i) ∗ owing c O) -∗ Runs c (k ⟨⟩) Kt))
      ⊢ Runs c (.op (.enqueueDma (chunk a i) (.remote (n : Thread nD τ) (chunk b i) (ssem (some (k₁, i))) hsc) (ssem (some (k₂, i))) hsrc hdst hsem) k) Kt := by
  unfold owing
  iintro ⟨#HR, Hs, Hd, ⟨%W, HO⟩, Ht1, Ht2, Hk⟩
  iapply (Rounds.wp_send_pointsTo 𝒱₀ ER (sched X) (c : Thread nD τ) none (κ₁ := K (c, some (k₁, i))) (κ₂ := K (n, some (k₂, i)))
      (r₁ := 0) (r₂ := 0) (d₁ := false) (d₂ := false) (fd := fd)
      (by rw [duties_dma]; exact Finset.mem_singleton_self _) (by rw [duties_dma]; exact Finset.mem_singleton_self _)
      () () N hN (amount_dma X c (k₁, i) false) (amount_dma X n (k₂, i) false) O rfl (W := W)
      (by rw [payload_eq]; exact hpay₁) (by rw [payload_eq]; exact hpay₂))
    $$ [Hs Hd HO Ht1 Ht2]
  · isplitr; · iapply (inv_of (F := F) X K c (some (k₁, i))); iexact HR
    isplitr; · iapply (inv_of (F := F) X K n (some (k₂, i))); iexact HR
    isplitl [Hs]; · iexact Hs
    isplitl [Hd]; · iexact Hd
    isplitl [HO]; · iexact HO
    isplitl [Ht1]; · iexact Ht1
    isplitr; · iapply (reached_of (F := F) X K c (some (k₁, i))); iexact HR
    isplitl [Ht2]; · iexact Ht2
    iapply (reached_of (F := F) X K n (some (k₂, i))); iexact HR
  iintro ⟨Hc, HO⟩
  iapply Hk
  isplitl [Hc]; · iexact Hc
  iexists W; iexact HO

/-! ## The first loop -/

/-- The chunk copied along y is the neighbour's payload. -/
theorem landed_y (c : Dev nD) (i : Fin 8) (fd : Buf (Elt F) ((chunk yM i).view.loc (py c : Thread nD τ))) :
    chunkPts yM (py c) i fullShare ((chunk yM i).view.write (Elt F) fd ((chunk sM i).view.read (Elt F) (sent X c)) Finset.univ)
      ⊢ pay X (py c) (some (some (yArr, i))) false := by
  show _ ⊢ chunkPts yM (py c) i fullShare (sent X (py (py c)))
  rw [py_py]
  exact Entails.of_eq (pointsTo_congr (copy_y i fd (sent X c)))

/-- Chunk `i`'s copy along y: the chunk is stored and lent to the copy, which will fill the neighbour's. -/
theorem runs_sendY (c : Dev nD) (i : Fin 8) (is : List (Fin 8)) (Kt : PUnit → sProp 𝕄) :
    iprop(records X K ∗ (chunkAny sM c i ∗ chunkAny yM (py c) i ∗ ticket c (ySend, i) ∗ ticket (py c) (yArr, i))
        ∗ (xPts X c ∗ owing c (dueY c (i :: is)))
        ∗ ((arrival c (ySend, i) ∗ (xPts X c ∗ owing c (dueY c is))) -∗ Kt ⟨⟩))
      ⊢ Runs c (sendY c (yDev c i) i) Kt := by
  rw [yDev_eq]
  unfold sendY chunkAny
  simp only [Prog.lift, Prog.bind_op, Prog.bind_ret, Prog.pure_eq_ret]
  iintro ⟨#HR, ⟨⟨%fs, Hs⟩, ⟨%fd, Hd⟩, Ht1, Ht2⟩, ⟨Hx, HO⟩, Hk⟩
  iapply (wp_load 𝒱₀ (c : Thread nD τ) none Set.univ (m := xM) (Finset.subset_univ _)) $$ Hx; iintro Hx
  iapply (wp_load_rect 𝒱₀ (c : Thread nD τ) none Set.univ (m := sM) (r := rows i) (S := (chunk sM i).view.set) subset_rfl) $$ Hs; iintro Hs
  iapply (wp_store 𝒱₀ (c : Thread nD τ) none Set.univ (m := sM) (r := rows i) (Mk := Finset.univ) (S := (chunk sM i).view.set) subset_rfl) $$ Hs
  iintro Hs
  ihave Hs := (Entails.of_eq (pointsTo_congr (store_sent X c i fs))) $$ Hs
  iapply (send_chunk (F := F) X K sM yM c (py c) i ySend yArr fullShare (sent X c) fd (dueY c is) rfl (Entails.refl _) (landed_y X c i fd))
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  unfold Runs; rw [wp_ret]; imodintro
  iapply Hk
  isplitl [Hc]; · iexact Hc
  isplitl [Hx]; · iexact Hx
  iexact HO

/-! ## The second loop -/

/-- The chunk passed on along x is the neighbour's payload. -/
theorem landed_x (c : Dev nD) (i : Fin 8) (fd : Buf (Elt F) ((chunk rM i).view.loc (px c : Thread nD τ))) :
    chunkPts rM (px c) i fullShare ((chunk rM i).view.write (Elt F) fd ((chunk yM i).view.read (Elt F) (sent X (py c))) Finset.univ)
      ⊢ pay X (px c) (some (some (xArr, i))) false := by
  show _ ⊢ chunkPts rM (px c) i fullShare (sent X (py (px (px c))))
  rw [px_px]
  exact Entails.of_eq (pointsTo_congr (copy_x i fd (sent X (py c))))

/-- Chunk `i` awaited along y, half of it lent to the copy along x, and added to the device's own rows from the other half. -/
theorem runs_relay (c : Dev nD) (i : Fin 8) (is : List (Fin 8)) (Kt : PUnit → sProp 𝕄) :
    iprop(records X K ∗ (arrival c (yArr, i) ∗ fresh c (some (yArr, i)) ∗ chunkAny rM (px c) i ∗ ticket c (xSend, i) ∗ ticket (px c) (xArr, i))
        ∗ (xPts X c ∗ owing c (dueX c (i :: is)) ∗ outPts X c (i :: is) chunks)
        ∗ (((arrival c (xSend, i) ∗ spent c (some (yArr, i)) ∗ chunkPts yM c i fullShare.left (sent X (py c)))
            ∗ (xPts X c ∗ owing c (dueX c is) ∗ outPts X c is chunks)) -∗ Kt ⟨⟩))
      ⊢ Runs c (relay c (xDev c i) i) Kt := by
  rw [xDev_eq]
  unfold relay chunkAny outPts
  simp only [Prog.lift, Prog.bind_op, Prog.bind_ret, Prog.pure_eq_ret]
  iintro ⟨#HR, ⟨Ha, Hat, ⟨%fd, Hd⟩, Ht1, Ht2⟩, ⟨Hx, HO, ⟨%f, %hf, Hout⟩⟩, Hk⟩
  iapply (wait_dma (F := F) X K sM yM c yArr i (dueX c (i :: is)) (credit_y i) (mayWait_yArr c i (i :: is)))
  isplitr; · iexact HR
  isplitl [Ha]; · iexact Ha
  isplitl [HO]; · iexact HO
  isplitl [Hat]; · iexact Hat
  iintro ⟨HO, Hat, Hy⟩
  ihave Hy := (show pay X c (some (some (yArr, i))) false ⊢ iprop(chunkPts yM c i fullShare.left (sent X (py c)) ∗ chunkPts yM c i fullShare.right (sent X (py c)))
    from (pointsTo_share (PosShare.mem_left_op_right fullShare)).1) $$ Hy
  icases Hy with ⟨Hl, Hr⟩
  iapply (send_chunk (F := F) X K yM rM c (px c) i xSend xArr fullShare.right (sent X (py c)) fd (dueX c is) rfl (Entails.refl _) (landed_x X c i fd))
  isplitr; · iexact HR
  isplitl [Hr]; · iexact Hr
  isplitl [Hd]; · iexact Hd
  isplitl [HO]; · iexact HO
  isplitl [Ht1]; · iexact Ht1
  isplitl [Ht2]; · iexact Ht2
  iintro ⟨Hc, HO⟩
  unfold Runs
  iapply (wp_load 𝒱₀ (c : Thread nD τ) none Set.univ (m := xM) (Finset.subset_univ _)) $$ Hx; iintro Hx
  iapply (wp_load_rect 𝒱₀ (c : Thread nD τ) none Set.univ (m := yM) (r := rows i) (S := (chunk yM i).view.set) subset_rfl) $$ Hl; iintro Hl
  iapply (wp_load 𝒱₀ (c : Thread nD τ) none Set.univ (m := oM) (Finset.subset_univ _)) $$ Hout; iintro Hout
  iapply (wp_store 𝒱₀ (c : Thread nD τ) none Set.univ (m := oM) (r := oNear c i) (Mk := Finset.univ) (Finset.subset_univ _)) $$ Hout; iintro Hout
  rw [wp_ret]; imodintro
  iapply Hk
  isplitl [Hc Hat Hl]
  · isplitl [Hc]; · iexact Hc
    isplitl [Hat]; · iexact Hat
    iexact Hl
  isplitl [Hx]; · iexact Hx
  isplitl [HO]; · iexact HO
  iexists _
  isplitr; · ipureintro; exact store_near X c i is chunks f hf
  iexact Hout

/-! ## The third loop -/

/-- Chunk `i` awaited along x and added to the device's own rows. -/
theorem runs_collect (c : Dev nD) (i : Fin 8) (is : List (Fin 8)) (Kt : PUnit → sProp 𝕄) :
    iprop(records X K ∗ (arrival c (xArr, i) ∗ fresh c (some (xArr, i)))
        ∗ (xPts X c ∗ owing c 0 ∗ outPts X c [] (i :: is))
        ∗ (((spent c (some (xArr, i)) ∗ chunkPts rM c i fullShare (sent X (py (px c))))
            ∗ (xPts X c ∗ owing c 0 ∗ outPts X c [] is)) -∗ Kt ⟨⟩))
      ⊢ Runs c (collect c i) Kt := by
  unfold collect outPts
  simp only [Prog.lift, Prog.bind_op, Prog.bind_ret, Prog.pure_eq_ret]
  iintro ⟨#HR, ⟨Ha, Hat⟩, ⟨Hx, HO, ⟨%f, %hf, Hout⟩⟩, Hk⟩
  iapply (wait_dma (F := F) X K yM rM c xArr i 0 (credit_r i) (mayWait_free c _))
  isplitr; · iexact HR
  isplitl [Ha]; · iexact Ha
  isplitl [HO]; · iexact HO
  isplitl [Hat]; · iexact Hat
  iintro ⟨HO, Hat, Hy⟩
  ihave Hl := (show pay X c (some (some (xArr, i))) false ⊢ chunkPts rM c i fullShare (sent X (py (px c))) from Entails.refl _) $$ Hy
  unfold Runs
  iapply (wp_load 𝒱₀ (c : Thread nD τ) none Set.univ (m := xM) (Finset.subset_univ _)) $$ Hx; iintro Hx
  iapply (wp_load_rect 𝒱₀ (c : Thread nD τ) none Set.univ (m := rM) (r := rows i) (S := (chunk rM i).view.set) subset_rfl) $$ Hl; iintro Hl
  iapply (wp_load 𝒱₀ (c : Thread nD τ) none Set.univ (m := oM) (Finset.subset_univ _)) $$ Hout; iintro Hout
  iapply (wp_store 𝒱₀ (c : Thread nD τ) none Set.univ (m := oM) (r := oFar c i) (Mk := Finset.univ) (Finset.subset_univ _)) $$ Hout; iintro Hout
  rw [wp_ret]; imodintro
  iapply Hk
  isplitl [Hat Hl]
  · isplitl [Hat]; · iexact Hat
    iexact Hl
  isplitl [Hx]; · iexact Hx
  isplitl [HO]; · iexact HO
  iexists _
  isplitr; · ipureintro; exact store_far X c i [] is f hf
  iexact Hout

/-! ## The last loop -/

/-- Both sends of chunk `i` awaited: the chunk of rows sent comes back, and the half lent of the chunk received. -/
theorem runs_drain (c : Dev nD) (i : Fin 8) (Kt : PUnit → sProp 𝕄) :
    iprop(records X K ∗ ((arrival c (ySend, i) ∗ fresh c (some (ySend, i))) ∗ (arrival c (xSend, i) ∗ fresh c (some (xSend, i))))
        ∗ owing c 0
        ∗ ((((spent c (some (ySend, i)) ∗ chunkPts sM c i fullShare (sent X c))
            ∗ (spent c (some (xSend, i)) ∗ chunkPts yM c i fullShare.right (sent X (py c)))) ∗ owing c 0) -∗ Kt ⟨⟩))
      ⊢ Runs c (drain i) Kt := by
  unfold drain
  simp only [Prog.lift, Prog.bind_op, Prog.bind_ret, Prog.pure_eq_ret]
  iintro ⟨#HR, ⟨⟨Ha, Hat⟩, ⟨Ha', Hat'⟩⟩, HO, Hk⟩
  iapply (wait_dma (F := F) X K yM sM c ySend i 0 (credit_s i) (mayWait_free c _))
  isplitr; · iexact HR
  isplitl [Ha]; · iexact Ha
  isplitl [HO]; · iexact HO
  isplitl [Hat]; · iexact Hat
  iintro ⟨HO, Hat, Hs⟩
  ihave Hs := (show pay X c (some (some (ySend, i))) false ⊢ chunkPts sM c i fullShare (sent X c) from Entails.refl _) $$ Hs
  iapply (wait_dma (F := F) X K rM yM c xSend i 0 (credit_y i) (mayWait_free c _))
  isplitr; · iexact HR
  isplitl [Ha']; · iexact Ha'
  isplitl [HO]; · iexact HO
  isplitl [Hat']; · iexact Hat'
  iintro ⟨HO, Hat', Hr⟩
  ihave Hr := (show pay X c (some (some (xSend, i))) false ⊢ chunkPts yM c i fullShare.right (sent X (py c)) from Entails.refl _) $$ Hr
  unfold Runs; rw [wp_ret]; imodintro
  iapply Hk
  isplitr [HO]
  · isplitl [Hat Hs]
    · isplitl [Hat]; · iexact Hat
      iexact Hs
    · isplitl [Hat']; · iexact Hat'
      iexact Hr
  iexact HO

/-! ## The handshake -/

/-- The handshake: the device gives each neighbour the buffer that neighbour writes, and gets the two it writes itself. -/
theorem runs_handshake (c : Dev nD) (Kt : PUnit → sProp 𝕄) :
    iprop(records X K ∗ ((bigSepL chunks fun i => chunkAny yM c i) ∗ (bigSepL chunks fun i => chunkAny rM c i)
          ∗ dutyTok ER (cell (py c) none) 0 true ∗ dutyTok ER (cell (px c) none) 0 false
          ∗ cred (tallyAt (cell c none) () 2) ∗ fresh c none ∗ owing c (due₀ c))
        ∗ (((bigSepL chunks fun i => chunkAny yM (py c) i) ∗ (bigSepL chunks fun i => chunkAny rM (px c) i)
            ∗ spent c none ∗ owing c (dueY c chunks)) -∗ Kt ⟨⟩))
      ⊢ Runs c (handshake ⟨k0_dev1 c, k0_dev1_lt c⟩ ⟨k0_dev2 c, k0_dev2_lt c⟩) Kt := by
  rw [dev1_eq, dev2_eq]
  unfold handshake owing
  simp only [semSignalWord, semWaitWord, Prog.lift, Prog.bind_op, Prog.bind_ret, Prog.pure_eq_ret]
  have hm := (@levs_of F _ X K).trans (mayWait_bar c)
  iintro ⟨#HR, ⟨Hy, Hr, Ht1, Ht2, Hc, Hat, ⟨%W, HO⟩⟩, Hk⟩
  iapply (Rounds.wp_signal 𝒱₀ ER (sched X) (c : Thread nD τ) none (dst := (py c : Thread nD τ)) (κ := K (py c, none))
      (r := 0) (d := true) (by exact (duties_bar X (py c)).symm ▸ Finset.mem_univ _) ((amount_bar X (py c) true).trans (by decide)) () (dueB c) rfl)
    $$ [HO Ht1 Hy]
  · isplitr; · iapply (inv_of (F := F) X K (py c) none); iexact HR
    isplitl [HO]; · iexact HO
    isplitl [Ht1]; · iexact Ht1
    isplitl [Hy]
    · iapply (show (bigSepL chunks fun i => chunkAny yM c i) ⊢ (sched X).payload ((py c : Thread nD τ), .reg barS) 0 true from by
        show _ ⊢ (sched X).payload (cell (py c) none) 0 true; rw [payload_eq]; show _ ⊢ bigSepL chunks fun i => chunkAny yM (py (py c)) i; rw [py_py])
      iexact Hy
    iapply (reached_of (F := F) X K (py c) none); iexact HR
  iintro HO
  iapply (Rounds.wp_signal 𝒱₀ ER (sched X) (c : Thread nD τ) none (dst := (px c : Thread nD τ)) (κ := K (px c, none))
      (r := 0) (d := false) (by exact (duties_bar X (px c)).symm ▸ Finset.mem_univ _) ((amount_bar X (px c) false).trans (by decide)) () (dueY c chunks) rfl)
    $$ [HO Ht2 Hr]
  · isplitr; · iapply (inv_of (F := F) X K (px c) none); iexact HR
    isplitl [HO]; · iexact HO
    isplitl [Ht2]; · iexact Ht2
    isplitl [Hr]
    · iapply (show (bigSepL chunks fun i => chunkAny rM c i) ⊢ (sched X).payload ((px c : Thread nD τ), .reg barS) 0 false from by
        show _ ⊢ (sched X).payload (cell (px c) none) 0 false; rw [payload_eq]; show _ ⊢ bigSepL chunks fun i => chunkAny rM (px (px c)) i; rw [px_px])
      iexact Hr
    iapply (reached_of (F := F) X K (px c) none); iexact HR
  iintro HO
  iapply (Rounds.wp_wait_rest_token 𝒱₀ ER (sched X) (c : Thread nD τ) none (κ := K (c, none)) (sm := ssem none)
      (wpE_semWait_eq 𝒱₀ (c : Thread nD τ) none Set.univ) (Set.mem_univ _) () (O := dueY c chunks) (W := W) (R := 0) (m := 0) (T := ∅)
      (by exact (expect_bar X c).symm ▸ (by decide))) $$ [Hc HO Hat]
  · isplitr; · iapply (inv_of (F := F) X K c none); iexact HR
    isplitl [Hc]; · iexact Hc
    isplitl [HO]; · iexact HO
    isplitr; · iapply hm; iexact HR
    iexact Hat
  iintro ⟨HO, Hat, -, Hpay⟩
  ihave Hp := (Entails.of_eq (rest_bar X c)) $$ Hpay
  icases Hp with ⟨Hr, Hy⟩
  ihave Hy := (show pay X c (some none) true ⊢ bigSepL chunks fun i => chunkAny yM (py c) i from Entails.refl _) $$ Hy
  ihave Hr := (show pay X c (some none) false ⊢ bigSepL chunks fun i => chunkAny rM (px c) i from Entails.refl _) $$ Hr
  rw [wp_ret]; imodintro
  iapply Hk
  isplitl [Hy]; · iexact Hy
  isplitl [Hr]; · iexact Hr
  isplitl [Hat]; · iexact Hat
  iexists _; iexact HO

end Cert.KernelIdealProof

end
-- ==== Proof.KernelIdealBody.lean ====
/-
The whole body of one device.

A loop over chunks is proved from its step by induction on the chunks left. With the four loops, the handshake and the closing
of the cells this gives the body: from the device's share of the protocol and its buffers to its result and all semaphores
back at zero.
-/
module

public import proofs.«01_k».proof.Proof.KernelIdealSteps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Chunks of a buffer -/

theorem mem_rows (i : Fin 8) (x : S1024x512.Idx) : x ∈ (rows i).set ↔ (x 0).val / 128 = i.val := by
  have h0 : (x 0).val < 1024 := (x 0).isLt
  have h1 : (x 1).val < 512 := (x 1).isLt
  show x ∈ (rows i).toLoadRect.set ↔ _
  rw [LoadRect.mem_set]
  constructor
  · intro h
    obtain ⟨j, hj, hx⟩ := h 0
    change j < 128 at hj
    change (x 0).val = 128 * i.val + 1 * j at hx
    omega
  · intro h k
    match k with
    | ⟨0, _⟩ => exact ⟨(x 0).val - 128 * i.val, by show _ < 128; omega, by show (x 0).val = 128 * i.val + 1 * _; omega⟩
    | ⟨1, _⟩ => exact ⟨(x 1).val, by show _ < 512; omega, by show (x 1).val = 0 + 1 * _; omega⟩

theorem chunks_cover (a : Memref sig .tc .vmem S1024x512 .bf16) :
    a.view.set = (Finset.univ : Finset (Fin 8)).biUnion fun i => (chunk a i).view.set := by
  ext y
  rw [Finset.mem_biUnion]
  constructor
  · intro hy
    obtain ⟨x, -, rfl⟩ := Finset.mem_map.mp hy
    have h0 : (x 0).val < 1024 := (x 0).isLt
    refine ⟨⟨(x 0).val / 128, by omega⟩, Finset.mem_univ _, ?_⟩
    show _ ∈ (a.view.slice (rows _)).set
    rw [View.set_slice]
    exact a.view.mem_setOn.mpr ((mem_rows _ x).mpr rfl)
  · rintro ⟨i, -, hy⟩
    change y ∈ (a.view.slice (rows i)).set at hy
    rw [View.set_slice] at hy
    exact a.view.setOn_subset_set _ hy

theorem chunks_disjoint (a : Memref sig .tc .vmem S1024x512 .bf16) (i j : Fin 8) (h : i ≠ j) :
    Disjoint (chunk a i).view.set (chunk a j).view.set := by
  show Disjoint (a.view.slice (rows i)).set (a.view.slice (rows j)).set
  rw [View.set_slice, View.set_slice, Finset.disjoint_left]
  intro y hi hj
  obtain ⟨x, hx, rfl⟩ := Finset.mem_map.mp hi
  have hj' := a.view.mem_setOn.mp hj
  exact h (Fin.ext (((mem_rows i x).mp hx).symm.trans ((mem_rows j x).mp hj')))

omit [FloatOps F] in
/-- A buffer is its eight chunks. -/
theorem whole_chunks (a : Memref sig .tc .vmem S1024x512 .bf16) (c : Dev nD) (q : PosShare TreeShare) (f : Buf (Elt F) (a.view.loc (c : Thread nD τ))) :
    (a.view.loc (c : Thread nD τ) ↦[a.view.set]{q} f : sProp 𝕄) = bigSepL chunks fun i => chunkPts a c i q f := by
  rw [chunks_cover a, pointsTo_biUnion _ _ (fun i _ j _ h => chunks_disjoint a i j h),
    bigSep_univ_eq_bigSepL chunks (by decide) (by decide)]

/-! ## Over all chunks -/

omit [FloatOps F] in
theorem each_eq (Φ : Fin 8 → sProp 𝕄) : bigSepL chunks Φ = bigSep Finset.univ Φ :=
  (bigSep_univ_eq_bigSepL chunks (by decide) (by decide) Φ).symm

omit [FloatOps F] in
theorem each_sep (Φ Ψ : Fin 8 → sProp 𝕄) : (bigSepL chunks fun i => iprop(Φ i ∗ Ψ i)) = iprop(bigSepL chunks Φ ∗ bigSepL chunks Ψ) := by
  rw [each_eq, each_eq, each_eq]; exact bigSep_sep' _ _ _

omit [FloatOps F] in
theorem each_sep2 (A B : Fin 8 → sProp 𝕄) : (bigSepL chunks fun i => iprop(A i ∗ B i)) ⊢ iprop(bigSepL chunks A ∗ bigSepL chunks B) :=
  Entails.of_eq (each_sep A B)
omit [FloatOps F] in
theorem each_sep3 (A B C : Fin 8 → sProp 𝕄) : (bigSepL chunks fun i => iprop(A i ∗ B i ∗ C i)) ⊢ iprop(bigSepL chunks A ∗ bigSepL chunks B ∗ bigSepL chunks C) := by
  rw [each_sep, each_sep]
omit [FloatOps F] in
theorem each_sep22 (A B C D : Fin 8 → sProp 𝕄) : (bigSepL chunks fun i => iprop((A i ∗ B i) ∗ C i ∗ D i))
    ⊢ iprop((bigSepL chunks A ∗ bigSepL chunks B) ∗ bigSepL chunks C ∗ bigSepL chunks D) := by
  rw [each_sep, each_sep, each_sep]

/-- A loop over chunks: its step takes what a chunk needs to what it leaves, and steps an invariant of the chunks left. -/
theorem runs_forEach (c : Dev nD) (R : sProp 𝕄) [BI.Persistent R] (f : Fin 8 → Steps F) (P Q : Fin 8 → sProp 𝕄) (I : List (Fin 8) → sProp 𝕄)
    (step : ∀ i is Kt, iprop(R ∗ P i ∗ I (i :: is) ∗ ((Q i ∗ I is) -∗ Kt ⟨⟩)) ⊢ Runs c (f i) Kt) (l : List (Fin 8)) (Kt : PUnit → sProp 𝕄) :
    iprop(R ∗ bigSepL l P ∗ I l ∗ ((bigSepL l Q ∗ I []) -∗ Kt ⟨⟩)) ⊢ Runs c (forEach f l) Kt := by
  induction l generalizing Kt with
  | nil =>
    show _ ⊢ Runs c (.ret ⟨⟩) Kt
    unfold Runs
    rw [wp_ret]
    iintro ⟨#HR, HP, HI, Hk⟩
    imodintro
    iapply Hk
    isplitl [HP]; · iexact HP
    iexact HI
  | cons i is ih =>
    show _ ⊢ Runs c (f i >>= fun _ => forEach f is) Kt
    unfold Runs
    rw [wp_bind, bigSepL_cons', bigSepL_cons']
    iintro ⟨#HR, ⟨HP, HPs⟩, HI, Hk⟩
    iapply (step i is _)
    isplitr; · iexact HR
    isplitl [HP]; · iexact HP
    isplitl [HI]; · iexact HI
    iintro ⟨HQ, HI⟩
    iapply (ih Kt)
    isplitr; · iexact HR
    isplitl [HPs]; · iexact HPs
    isplitl [HI]; · iexact HI
    iintro ⟨HQs, HI⟩
    iapply Hk
    isplitr [HI]
    · isplitl [HQ]; · iexact HQ
      iexact HQs
    iexact HI

/-! ## The body -/

variable (X : Dev nD → (xM).view.ty.Contents (Elt F)) (K : Dev nD × Slot → ℕ)

/-- A cell awaited closes, its counter at zero. -/
theorem close_cell (c : Dev nD) (s : Slot) : iprop(records X K ∗ spent c s) ⊢ iprop(|={Set.univ}=> semVal (cell c s) 0) := by
  iintro ⟨#HR, Hat⟩
  iapply (Rounds.cell_close ER (sched X) (Set.mem_univ (K (c, s))) (fun h => h) (R := 1) (duties_later X (cell c s)))
  isplitr; · iapply (inv_of (F := F) X K c s); iexact HR
  iexact Hat

theorem close_cells (c : Dev nD) (g : Fin 8 → Slot) (l : List (Fin 8)) :
    iprop(records X K ∗ bigSepL l fun i => spent c (g i)) ⊢ iprop(|={Set.univ}=> bigSepL l fun i => semVal (cell c (g i)) 0) := by
  induction l with
  | nil => iintro ⟨-, H⟩; imodintro; iexact H
  | cons i is ih =>
    rw [bigSepL_cons', bigSepL_cons']
    iintro ⟨#HR, H, Hs⟩
    imod (close_cell (F := F) X K c (g i)) $$ [H] with Hz
    · isplitr; · iexact HR
      iexact H
    imod ih $$ [Hs] with Hzs
    · isplitr; · iexact HR
      iexact Hs
    imodintro
    isplitl [Hz]; · iexact Hz
    iexact Hzs

/-- Device `c`'s tickets: one of each neighbour's barrier units, its own sends, its neighbours' arrivals. -/
def tickets (c : Dev nD) : sProp 𝕄 :=
  iprop((dutyTok ER (cell (py c) none) 0 true ∗ dutyTok ER (cell (px c) none) 0 false)
    ∗ (bigSepL chunks fun i => ticket c (ySend, i)) ∗ (bigSepL chunks fun i => ticket (py c) (yArr, i))
    ∗ (bigSepL chunks fun i => ticket c (xSend, i)) ∗ (bigSepL chunks fun i => ticket (px c) (xArr, i)))

/-- Something of each of a device's cells. -/
def eachCell (Φ : Slot → sProp 𝕄) : sProp 𝕄 :=
  iprop(Φ none ∗ (bigSepL chunks fun i => Φ (some (ySend, i))) ∗ (bigSepL chunks fun i => Φ (some (yArr, i)))
    ∗ (bigSepL chunks fun i => Φ (some (xSend, i))) ∗ (bigSepL chunks fun i => Φ (some (xArr, i))))

/-- The credit a device starts with: its barrier's, and its arrivals'. -/
def credits (c : Dev nD) : sProp 𝕄 :=
  iprop(cred (tallyAt (cell c none) () 2) ∗ (bigSepL chunks fun i => arrival c (yArr, i)) ∗ (bigSepL chunks fun i => arrival c (xArr, i)))

/-- A 1024-row buffer holding anything. -/
def buf (a : Memref sig .tc .vmem S1024x512 .bf16) (c : Dev nD) : sProp 𝕄 :=
  iprop(∃ f : Buf (Elt F) (a.view.loc (c : Thread nD τ)), a.view.loc (c : Thread nD τ) ↦[a.view.set]{fullShare} f)

omit [FloatOps F] in
/-- Split into its chunks. -/
theorem buf_split (a : Memref sig .tc .vmem S1024x512 .bf16) (c : Dev nD) : buf (F := F) a c ⊢ bigSepL chunks fun i => chunkAny a c i := by
  have h : ∀ f : Buf (Elt F) (a.view.loc (c : Thread nD τ)), (bigSepL chunks fun i => (chunkPts a c i fullShare f : sProp 𝕄)) ⊢ bigSepL chunks fun i => chunkAny a c i :=
    fun f => bigSepL_mono fun i _ => by unfold chunkAny; iintro H; iexists f; iexact H
  unfold buf
  iintro ⟨%f, H⟩
  ihave H := (Entails.of_eq (whole_chunks a c fullShare f)) $$ H
  iapply (h f)
  iexact H

omit [FloatOps F] in
/-- And joined again, once all chunks agree. -/
theorem buf_join (a : Memref sig .tc .vmem S1024x512 .bf16) (c : Dev nD) (f : Buf (Elt F) (a.view.loc (c : Thread nD τ))) :
    (bigSepL chunks fun i => chunkPts a c i fullShare f) ⊢ buf (F := F) a c := by
  unfold buf
  iintro H
  ihave H := (Entails.of_eq (whole_chunks a c fullShare f).symm) $$ H
  iexists f
  iexact H

omit [FloatOps F] in
/-- Two half shares of every chunk are the chunks. -/
theorem halves_join (a : Memref sig .tc .vmem S1024x512 .bf16) (c : Dev nD) (f : Buf (Elt F) (a.view.loc (c : Thread nD τ))) :
    iprop((bigSepL chunks fun i => chunkPts a c i fullShare.left f) ∗ (bigSepL chunks fun i => chunkPts a c i fullShare.right f))
      ⊢ bigSepL chunks fun i => (chunkPts a c i fullShare f : sProp 𝕄) := by
  rw [← each_sep]
  exact bigSepL_mono fun i _ => (pointsTo_share (PosShare.mem_left_op_right fullShare)).2

/-- The result buffer holding anything. -/
abbrev outAny (c : Dev nD) : sProp 𝕄 := iprop(∃ f : Buf (Elt F) ((c : Thread nD τ).loc cc0_stg1_0), (((c : Thread nD τ).loc cc0_stg1_0) ↦{fullShare} f))

/-- One program after another. -/
theorem runs_seq (c : Dev nD) (p q : Steps F) (Kt : PUnit → sProp 𝕄) : Runs c p (fun _ => Runs c q Kt) ⊢ Runs c (p >>= fun _ => q) Kt := by
  unfold Runs
  rw [wp_bind]

theorem runs_deviceId (c : Dev nD) (f : Dev nD → Steps F) (Kt : PUnit → sProp 𝕄) : Runs c (f c) Kt ⊢ Runs c (.op .deviceId f) Kt := by
  unfold Runs
  rw [wp_deviceId]

/-- An update may follow a program. -/
theorem runs_fupd (c : Dev nD) (p : Steps F) (Kt : PUnit → sProp 𝕄) : Runs c p (fun a => iprop(|={Set.univ}=> Kt a)) ⊢ Runs c p Kt := by
  unfold Runs
  exact wp_fupd _ _ _ p Kt

/-- All of a device's cells close. -/
theorem close_all (c : Dev nD) : iprop(records X K ∗ eachCell fun s => spent c s) ⊢ iprop(|={Set.univ}=> eachCell fun s => semVal (cell c s) 0) := by
  unfold eachCell
  iintro ⟨#HR, HB, H0, H1, H2, H3⟩
  imod (close_cell (F := F) X K c none) $$ [HB] with HB
  · isplitr; · iexact HR
    iexact HB
  imod (close_cells (F := F) X K c (fun i => some (ySend, i)) chunks) $$ [H0] with H0
  · isplitr; · iexact HR
    iexact H0
  imod (close_cells (F := F) X K c (fun i => some (yArr, i)) chunks) $$ [H1] with H1
  · isplitr; · iexact HR
    iexact H1
  imod (close_cells (F := F) X K c (fun i => some (xSend, i)) chunks) $$ [H2] with H2
  · isplitr; · iexact HR
    iexact H2
  imod (close_cells (F := F) X K c (fun i => some (xArr, i)) chunks) $$ [H3] with H3
  · isplitr; · iexact HR
    iexact H3
  imodintro
  isplitl [HB]; · iexact HB
  isplitl [H0]; · iexact H0
  isplitl [H1]; · iexact H1
  isplitl [H2]; · iexact H2
  iexact H3

/-- The kernel's body on device `c`. -/
theorem runs_looped (c : Dev nD) (Kt : PUnit → sProp 𝕄) :
    iprop(records X K ∗ (tickets c ∗ eachCell (fun s => fresh c s) ∗ credits c ∗ buf sM c ∗ buf yM c ∗ buf rM c
          ∗ owing c (due₀ c) ∗ xPts X c ∗ outAny c)
        ∗ ((eachCell (fun s => semVal (cell c s) 0) ∗ buf sM c ∗ buf yM c ∗ buf rM c
            ∗ owing c 0 ∗ xPts X c ∗ (((c : Thread nD τ).loc cc0_stg1_0) ↦{fullShare} outAt X c)) -∗ Kt ⟨⟩))
      ⊢ Runs c looped Kt := by
  have hs := fun l Kt => runs_forEach c (records X K) (fun i => sendY c (yDev c i) i) _ _ (fun l => iprop(xPts X c ∗ owing c (dueY c l)))
    (fun i is Kt => runs_sendY X K c i is Kt) l Kt
  have hr := fun l Kt => runs_forEach c (records X K) (fun i => relay c (xDev c i) i) _ _ (fun l => iprop(xPts X c ∗ owing c (dueX c l) ∗ outPts X c l chunks))
    (fun i is Kt => runs_relay X K c i is Kt) l Kt
  have hc := fun l Kt => runs_forEach c (records X K) (collect c) _ _ (fun l => iprop(xPts X c ∗ owing c 0 ∗ outPts X c [] l))
    (fun i is Kt => runs_collect X K c i is Kt) l Kt
  have hd := fun l Kt => runs_forEach c (records X K) drain _ _ (fun _ => owing c 0)
    (fun i is Kt => runs_drain X K c i Kt) l Kt
  show _ ⊢ Runs c (.op .deviceId fun d => handshake ⟨k0_dev1 d, k0_dev1_lt d⟩ ⟨k0_dev2 d, k0_dev2_lt d⟩ >>= fun _ =>
    forEach (fun i => sendY d (yDev d i) i) chunks >>= fun _ => forEach (fun i => relay d (xDev d i) i) chunks >>= fun _ =>
    forEach (collect d) chunks >>= fun _ => forEach drain chunks) Kt
  unfold tickets credits
  iintro ⟨#HR, ⟨⟨⟨HtB, HtB'⟩, Ht0, Ht1, Ht2, Ht3⟩, Hcells, ⟨HcB, Hc1, Hc3⟩, Hs, Hy, Hr, HO, Hx, ⟨%fo, Hout⟩⟩, Hk⟩
  unfold eachCell
  icases Hcells with ⟨HfB, Hf0, Hf1, Hf2, Hf3⟩
  ihave Hs := (buf_split (F := F) sM c) $$ Hs
  ihave Hy := (buf_split (F := F) yM c) $$ Hy
  ihave Hr := (buf_split (F := F) rM c) $$ Hr
  iapply (runs_deviceId (F := F) c _ Kt)
  iapply (runs_seq (F := F) c _ _ Kt)
  iapply (runs_handshake (F := F) X K c _)
  isplitr; · iexact HR
  isplitl [Hy Hr HtB HtB' HcB HfB HO]
  · isplitl [Hy]; · iexact Hy
    isplitl [Hr]; · iexact Hr
    isplitl [HtB]; · iexact HtB
    isplitl [HtB']; · iexact HtB'
    isplitl [HcB]; · iexact HcB
    isplitl [HfB]; · iexact HfB
    iexact HO
  iintro ⟨Hy, Hr, HfB, HO⟩
  -- the copies to the `y` neighbour
  iapply (runs_seq (F := F) c _ _ Kt)
  iapply (hs chunks _)
  isplitr; · iexact HR
  isplitl [Hs Hy Ht0 Ht1]
  · rw [each_sep, each_sep, each_sep]
    isplitl [Hs]; · iexact Hs
    isplitl [Hy]; · iexact Hy
    isplitl [Ht0]; · iexact Ht0
    iexact Ht1
  isplitl [Hx HO]
  · isplitl [Hx]; · iexact Hx
    iexact HO
  iintro ⟨Hc0, Hx, HO⟩
  -- the relays to the `x` neighbour
  iapply (runs_seq (F := F) c _ _ Kt)
  iapply (hr chunks _)
  isplitr; · iexact HR
  isplitl [Hc1 Hf1 Hr Ht2 Ht3]
  · rw [each_sep, each_sep, each_sep, each_sep]
    isplitl [Hc1]; · iexact Hc1
    isplitl [Hf1]; · iexact Hf1
    isplitl [Hr]; · iexact Hr
    isplitl [Ht2]; · iexact Ht2
    iexact Ht3
  isplitl [Hx HO Hout]
  · isplitl [Hx]; · iexact Hx
    isplitl [HO]
    · ihave HO := (show owing (F := F) c (dueY c []) ⊢ owing c (dueX c chunks) from Entails.refl _) $$ HO
      iexact HO
    unfold outPts
    iexists fo
    isplitr; · ipureintro; exact filled_none X c fo
    iexact Hout
  iintro ⟨HQ, Hx, HO, Hout⟩
  ihave HQ := (each_sep3 _ _ _) $$ HQ
  icases HQ with ⟨Hc2, Hf1, Hyl⟩
  -- the far half
  iapply (runs_seq (F := F) c _ _ Kt)
  iapply (hc chunks _)
  isplitr; · iexact HR
  isplitl [Hc3 Hf3]
  · rw [each_sep]
    isplitl [Hc3]; · iexact Hc3
    iexact Hf3
  isplitl [Hx HO Hout]
  · isplitl [Hx]; · iexact Hx
    isplitl [HO]
    · ihave HO := (show owing (F := F) c (dueX c []) ⊢ owing c 0 from Entails.refl _) $$ HO
      iexact HO
    iexact Hout
  iintro ⟨HQ, Hx, HO, Hout⟩
  ihave HQ := (each_sep2 _ _) $$ HQ
  icases HQ with ⟨Hf3, Hr⟩
  -- its own sends
  iapply (runs_fupd (F := F) c _ Kt)
  iapply (hd chunks _)
  isplitr; · iexact HR
  isplitl [Hc0 Hf0 Hc2 Hf2]
  · rw [each_sep, each_sep, each_sep]
    isplitl [Hc0 Hf0]
    · isplitl [Hc0]; · iexact Hc0
      iexact Hf0
    isplitl [Hc2]; · iexact Hc2
    iexact Hf2
  isplitl [HO]; · iexact HO
  iintro ⟨HQ, HO⟩
  ihave HQ := (each_sep22 _ _ _ _) $$ HQ
  icases HQ with ⟨⟨Hf0, Hs⟩, Hf2, Hyr⟩
  -- the buffers whole again, the cells closed
  ihave Hs := (buf_join (F := F) sM c (sent X c)) $$ Hs
  ihave Hr := (buf_join (F := F) rM c (sent X (py (px c)))) $$ Hr
  ihave Hy := (halves_join (F := F) yM c (sent X (py c))) $$ [Hyl Hyr]
  · isplitl [Hyl]; · iexact Hyl
    iexact Hyr
  ihave Hy := (buf_join (F := F) yM c (sent X (py c))) $$ Hy
  unfold outPts
  icases Hout with ⟨%f, %hf, Hout⟩
  have hf' := filled_all X c f hf
  subst hf'
  imod (close_all (F := F) X K c) $$ [HfB Hf0 Hf1 Hf2 Hf3] with Hz
  · isplitr; · iexact HR
    unfold eachCell
    isplitl [HfB]; · iexact HfB
    isplitl [Hf0]; · iexact Hf0
    isplitl [Hf1]; · iexact Hf1
    isplitl [Hf2]; · iexact Hf2
    iexact Hf3
  unfold eachCell
  imodintro
  iapply Hk
  isplitl [Hz]; · iexact Hz
  isplitl [Hs]; · iexact Hs
  isplitl [Hy]; · iexact Hy
  isplitl [Hr]; · iexact Hr
  isplitl [HO]; · iexact HO
  isplitl [Hx]; · iexact Hx
  iexact Hout

end Cert.KernelIdealProof

end
-- ==== Proof.KernelIdealRun.lean ====
/-
The kernel on all sixteen devices.

Every device's body is met in the pipeline's terms, the cells are set up for all devices at once, every device is dealt the
tickets for what it signals, and the launch theorem gives: every execution ends, each device's result array holds `outAt`,
its `x` is what it was, and every semaphore is back at zero.
-/
module

public import proofs.«01_k».proof.Proof.KernelIdealBody
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- Each device's block of `x`. -/
def input (c : Dev nD) : (xM).view.ty.Contents (Elt F) := (win0_0.blk (0 : Fin 1)).view.read (Elt F) (m ((c : Thread nD τ).loc main_arg0))

/-! ## The pipeline's proof data -/

/-- What a device's body starts from: its share of the protocol, at some names of the cells' invariants. -/
def start (c : Dev nD) : sProp 𝕄 :=
  iprop(∃ K : Dev nD × Slot → ℕ, records (input m) K ∗ tickets c ∗ (eachCell fun s => fresh c s) ∗ credits c)

def Φ₀ (c : Dev nD) : sProp 𝕄 := iprop(start m c ∗ buf sM c ∗ buf yM c ∗ buf rM c)
def Φ₁ (c : Dev nD) : sProp 𝕄 := iprop((eachCell fun s => semVal (cell c s) 0) ∗ buf sM c ∗ buf yM c ∗ buf rM c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => input m c
    | ⟨1, _⟩ => outAt (input m) c
  Φ t := match t with
    | ⟨0, _⟩ => Φ₀ m c
    | ⟨_ + 1, _⟩ => Φ₁ c
  q _ := fullShare
  owed t := match t with
    | ⟨0, _⟩ => due₀ c
    | ⟨_ + 1, _⟩ => 0

omit [FloatOps F] in
theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- A staging buffer at contents. -/
abbrev stg (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (input m c) ∗ stg c cc0_stg1_0 (outAt (input m) c))

theorem sound_body (c : Dev nD) (Kt : PUnit → sProp 𝕄) (hK : bodyPost m ρ c ⊢ Kt ⟨⟩) : bodyPre m ρ c ⊢ Runs c looped Kt := by
  unfold bodyPre Φ₀ start
  iintro ⟨⟨⟨%K, #HR, Ht, Hf, Hc⟩, Hs, Hy, Hr⟩, Ho, ⟨%d0, %g0, %hg0, Hx⟩, ⟨%d1, %g1, %hg1, Hout⟩⟩
  have hx : g0 = input m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = due₀ c from rfl]
  iapply (runs_looped (F := F) (input m) K c Kt)
  isplitr; · iexact HR
  isplitl
  · isplitl [Ht]; · iexact Ht
    isplitl [Hf]; · iexact Hf
    isplitl [Hc]; · iexact Hc
    isplitl [Hs]; · iexact Hs
    isplitl [Hy]; · iexact Hy
    isplitl [Hr]; · iexact Hr
    isplitl [HO]
    · unfold owing
      iexists W; iexact HO
    isplitl [Hx]; · iexact Hx
    iexists g1; iexact Hout
  iintro ⟨Hz, Hs, Hy, Hr, HO, Hx, Hout⟩
  iapply hK
  unfold bodyPost Φ₁ Dat.owesAt Pipeline.owesWithin owing
  icases HO with ⟨%W', HO⟩
  rw [show (dats m ρ 0 c).owed t0_0.succ = 0 from rfl]
  isplitl [Hz Hs Hy Hr]
  · isplitl [Hz]; · iexact Hz
    isplitl [Hs]; · iexact Hs
    isplitl [Hy]; · iexact Hy
    iexact Hr
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 16000 in
/-- The body in the pipeline's terms. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) oM (Memref.isWhole_whole _) sM (Memref.isWhole_whole _) yM (Memref.isWhole_whole _)
      rM (Memref.isWhole_whole _) cc0_scratch3 cc0_scratch4 cc0_scratch5 cc0_scratch6) (fun _ => bodyPost m ρ c)
  rw [body_eq]
  exact sound_body m ρ c (fun _ => bodyPost m ρ c) (Entails.refl _)

/-! ## The cells and the tickets -/

/-- The kernel's own semaphores. -/
abbrev osem (ki : Fin 4 × Fin 8) : SemLoc sig := ssem (some ki)

theorem ownSemFacts : Pipeline.OwnSemFacts cfg0.spec osem := by decide

theorem share_eq (c : Dev nD) (w : Fin cfg0.W) : (dats m ρ 0 c).share w = fullShare := by unfold Dat.share; split <;> rfl

/-- All cells of all devices. -/
def cellEmb : Dev nD × Slot ↪ GSem nD τ sig :=
  ⟨fun cs => cell cs.1 cs.2, fun a b h => Prod.ext (cell_inj.mp h).1 (cell_inj.mp h).2⟩

/-- All tickets: each device's barrier's second, and one of every cell of each device. -/
def tokEmb : Dev nD × Option Slot ↪ GSem nD τ sig × ℕ × Bool :=
  ⟨fun cs => match cs.2 with
    | none => (cell cs.1 none, 0, true)
    | some s => (cell cs.1 s, 0, false), by
    rintro ⟨c, s⟩ ⟨c', s'⟩ h
    match s, s' with
    | none, none => exact Prod.ext (cell_inj.mp (congrArg Prod.fst h)).1 rfl
    | some s, some s' =>
      have := cell_inj.mp (congrArg Prod.fst h)
      exact Prod.ext this.1 (congrArg some this.2)
    | none, some s => exact absurd (congrArg (fun x => x.2.2) h) (fun h : true = false => by cases h)
    | some s, none => exact absurd (congrArg (fun x => x.2.2) h) (fun h : false = true => by cases h)⟩

def u₀ : UU :=
  (initOf (Pipeline.cells cfgs cellOf_inj) (Pipeline.launchToks cfgs cellOf_inj), initOf (Finset.univ.map cellEmb) (Finset.univ.map tokEmb))

/-- The kinds' chunks, listed. -/
def kinds (k : Fin 4) : List (Fin 4 × Fin 8) := chunks.map fun i => (k, i)
def dmaCells : List (Fin 4 × Fin 8) := kinds ySend ++ (kinds yArr ++ (kinds xSend ++ kinds xArr))

omit [FloatOps F] in
theorem bigSepL_dma (Φ : Fin 4 × Fin 8 → sProp 𝕄) : bigSepL dmaCells Φ
    = iprop((bigSepL chunks fun i => Φ (ySend, i)) ∗ (bigSepL chunks fun i => Φ (yArr, i))
        ∗ (bigSepL chunks fun i => Φ (xSend, i)) ∗ (bigSepL chunks fun i => Φ (xArr, i))) := by
  unfold dmaCells kinds
  rw [bigSepL_append, bigSepL_append, bigSepL_append, bigSepL_map, bigSepL_map, bigSepL_map, bigSepL_map]

omit [FloatOps F] in
theorem eachCell_eq (Φ : Slot → sProp 𝕄) : bigSep Finset.univ Φ = eachCell Φ := by
  rw [bigSep_univ_eq_bigSepL (none :: dmaCells.map some) (by decide) (by decide), bigSepL_cons', bigSepL_map, bigSepL_dma]
  rfl

/-- The tickets of a device's own cells. -/
def toks (c : Dev nD) : sProp 𝕄 := iprop(dutyTok ER (cell c none) 0 true ∗ eachCell fun s => dutyTok ER (cell c s) 0 false)

omit [FloatOps F] in
theorem toks_eq (c : Dev nD) : (bigSep Finset.univ fun s : Option Slot => (dutyTok ER (tokEmb (c, s)).1 (tokEmb (c, s)).2.1 (tokEmb (c, s)).2.2 : sProp 𝕄)) = toks c := by
  rw [bigSep_univ_eq_bigSepL (none :: (none :: dmaCells.map some).map some) (by decide) (by decide), bigSepL_cons', bigSepL_map, bigSepL_cons', bigSepL_map, bigSepL_dma]
  rfl

/-- What the launch deals a device. -/
def G (c : Dev nD) : sProp 𝕄 :=
  iprop((bigSep Finset.univ fun s : Slot => roundState ER (sched (input m)) (cell c s) 0)
    ∗ (bigSep Finset.univ fun s : Slot => atPos ER (cell c s) 0 ∅ 0) ∗ (bigSep Finset.univ fun s : Slot => reached ER (cell c s) 0) ∗ toks c)

/-- What it holds once the cells are set up. -/
def G' (c : Dev nD) : sProp 𝕄 :=
  iprop(∃ K : Dev nD × Slot → ℕ, ((bigSep Finset.univ fun ck : Dev nD × Slot => cellInv ER (sched (input m)) (K ck) (cell ck.1 ck.2))
      ∗ (bigSep Finset.univ fun ck : Dev nD × Slot => reached ER (cell ck.1 ck.2) 0)) ∗ tickets c ∗ eachCell fun s => fresh c s)

theorem fund_cells : BI.own (ER (initOf (Finset.univ.map cellEmb) (Finset.univ.map tokEmb))) ⊢ (|==> bigSep Finset.univ (G m) : sProp 𝕄) := by
  have hX (Φ : GSem nD τ sig → sProp 𝕄) : bigSep (Finset.univ.map cellEmb) Φ = bigSep Finset.univ fun c : Dev nD => bigSep Finset.univ fun s : Slot => Φ (cell c s) := by
    rw [bigSep_map, bigSep_univ_prod]; rfl
  have hT : bigSep (Finset.univ.map tokEmb) (fun x => (dutyTok ER x.1 x.2.1 x.2.2 : sProp 𝕄)) = bigSep Finset.univ fun c : Dev nD => toks c := by
    rw [bigSep_map, bigSep_univ_prod]
    exact bigSep_congr fun c _ => toks_eq c
  iintro HX
  imod (Rounds.fund ER (sched (input m)) (Finset.univ.map cellEmb) (Finset.univ.map tokEmb)) $$ HX with ⟨Hst, Hr, Hat, Htok⟩
  imodintro
  ihave Hst' := (Entails.of_eq (hX fun g => roundState ER (sched (input m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem ownSems_eq (c : Dev nD) : (Pipeline.ownSems0 (Ix := Unit) (Name := ℕ) (U := UU) (Lvl := ℕ) (Val := Elt F) (τ := τ) osem c : sProp 𝕄)
    = iprop((bigSepL chunks fun i => semVal (cell c (some (ySend, i))) 0) ∗ (bigSepL chunks fun i => semVal (cell c (some (yArr, i))) 0)
        ∗ (bigSepL chunks fun i => semVal (cell c (some (xSend, i))) 0) ∗ (bigSepL chunks fun i => semVal (cell c (some (xArr, i))) 0)) := by
  rw [Pipeline.ownSems0_eq_of_list c osem dmaCells (by decide) (by decide), bigSepL_dma]

omit [FloatOps F] in
/-- The barrier's is the one semaphore that outlives the launch. -/
theorem unscopedSems_eq (c : Dev nD) : (unscopedSems0 c : sProp 𝕄) = semVal (cell c none) 0 := by
  unfold unscopedSems0; rw [bigSep_eq_bigSepL_of_eq [SemLoc.reg barS] (by decide) (by decide)]; rfl

omit [FloatOps F] in
/-- A device's semaphores are its cells'. -/
theorem sems_eq (c : Dev nD) :
    iprop(unscopedSems0 c ∗ Pipeline.ownSems0 (Ix := Unit) (Name := ℕ) (U := UU) (Lvl := ℕ) (Val := Elt F) (τ := τ) osem c)
      = (eachCell fun s => (semVal (cell c s) 0 : sProp 𝕄)) := by
  rw [ownSems_eq, unscopedSems_eq]; rfl

/-- A device's cells are set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : Slot => iprop(∃ κ : ℕ, cellInv ER (sched (input m)) κ (cell c s)))
          ∗ (bigSep Finset.univ fun s : Slot => atPos ER (cell c s) 0 ∅ 0) ∗ (bigSep Finset.univ fun s : Slot => reached ER (cell c s) 0) ∗ toks c) := by
  have halloc : iprop((bigSep Finset.univ fun s : Slot => semVal (cell c s) 0) ∗ bigSep Finset.univ fun s : Slot => roundState ER (sched (input m)) (cell c s) 0)
      ⊢ (|={Set.univ}=> bigSep Finset.univ fun s : Slot => iprop(∃ κ : ℕ, cellInv ER (sched (input m)) κ (cell c s)) : sProp 𝕄) := by
    rw [← bigSep_sep']
    exact (bigSep_mono fun s _ => (Rounds.body_intro ER (sched (input m)) (cell c s)).trans inv_alloc).trans (bigSep_fupd _ _)
  unfold G
  iintro ⟨Hos, Hus, Hst, Hat, Hr, Htok⟩
  ihave Hv := (Entails.of_eq ((sems_eq (F := F) c).trans (eachCell_eq _).symm)) $$ [Hos Hus]
  · isplitl [Hus] <;> iassumption
  imod halloc $$ [Hv Hst] with Hinv
  · isplitl [Hv] <;> iassumption
  imodintro
  isplitl [Hinv]; · iexact Hinv
  isplitl [Hat]; · iexact Hat
  isplitl [Hr]; · iexact Hr
  iexact Htok

/-- Neighbours along y, and along x, are neighbours of each other. -/
def yPair : Dev nD ≃ Dev nD := ⟨py, py, py_py, py_py⟩
def xPair : Dev nD ≃ Dev nD := ⟨px, px, px_px, px_px⟩

omit [FloatOps F] in
/-- The tickets dealt to those who signal: a barrier's two and an arrival's to the neighbours. -/
theorem toks_around : (bigSep Finset.univ fun c : Dev nD => (toks c : sProp 𝕄)) ⊢ bigSep Finset.univ fun c : Dev nD => tickets c := by
  unfold toks tickets eachCell
  rw [bigSep_sep', bigSep_sep', bigSep_sep', bigSep_sep', bigSep_sep', bigSep_sep', bigSep_sep', bigSep_sep', bigSep_sep', bigSep_sep',
    bigSep_univ_equiv yPair (fun c : Dev nD => (dutyTok ER (cell c none) 0 true : sProp 𝕄)),
    bigSep_univ_equiv xPair (fun c : Dev nD => (dutyTok ER (cell c none) 0 false : sProp 𝕄)),
    bigSep_univ_equiv yPair (fun c : Dev nD => bigSepL chunks fun i => (dutyTok ER (cell c (some (yArr, i))) 0 false : sProp 𝕄)),
    bigSep_univ_equiv xPair (fun c : Dev nD => bigSepL chunks fun i => (dutyTok ER (cell c (some (xArr, i))) 0 false : sProp 𝕄))]
  iintro ⟨H1, H2, H3, H4, H5, H6⟩
  isplitl [H1 H2]
  · isplitl [H1]; · iexact H1
    iexact H2
  isplitl [H3]; · iexact H3
  isplitl [H4]; · iexact H4
  isplitl [H5]; · iexact H5
  iexact H6

/-- From cells set up one device at a time to every device knowing all cells. -/
theorem regroup :
    (bigSep Finset.univ fun c : Dev nD => iprop((bigSep Finset.univ fun s : Slot => iprop(∃ κ : ℕ, cellInv ER (sched (input m)) κ (cell c s)))
          ∗ (bigSep Finset.univ fun s : Slot => atPos ER (cell c s) 0 ∅ 0) ∗ (bigSep Finset.univ fun s : Slot => reached ER (cell c s) 0) ∗ toks c) : sProp 𝕄)
      ⊢ bigSep Finset.univ (G' m) := by
  have hdeal : ∀ K : Dev nD × Slot → ℕ, iprop(((bigSep Finset.univ fun ck : Dev nD × Slot => cellInv ER (sched (input m)) (K ck) (cell ck.1 ck.2))
        ∗ (bigSep Finset.univ fun ck : Dev nD × Slot => reached ER (cell ck.1 ck.2) 0))
        ∗ bigSep Finset.univ fun c : Dev nD => iprop(tickets c ∗ eachCell fun s => fresh c s)) ⊢ bigSep Finset.univ (G' m) := fun K => by
    refine (sep_mono_left (BI.bigSep_of_persistent (Finset.univ : Finset (Dev nD)) _)).trans ?_
    rw [← bigSep_sep']
    refine bigSep_mono fun c _ => ?_
    show _ ⊢ G' m c
    unfold G'
    iintro ⟨HR, HL⟩
    iexists K
    isplitl [HR]; · iexact HR
    iexact HL
  rw [bigSep_sep', bigSep_sep', bigSep_sep', ← bigSep_univ_prod (fun ck : Dev nD × Slot => iprop(∃ κ : ℕ, cellInv ER (sched (input m)) κ (cell ck.1 ck.2))),
    ← bigSep_univ_prod (fun ck : Dev nD × Slot => (reached ER (cell ck.1 ck.2) 0 : sProp 𝕄))]
  iintro ⟨HI, Hat, HR, Htok⟩
  ihave HK := (BI.bigSep_exists_pi Finset.univ (fun (ck : Dev nD × Slot) (κ : ℕ) => (cellInv ER (sched (input m)) κ (cell ck.1 ck.2) : sProp 𝕄))) $$ HI
  icases HK with ⟨%K, HI⟩
  ihave Htk := (toks_around (F := F)) $$ Htok
  ihave Hat := (show (bigSep Finset.univ fun c : Dev nD => bigSep Finset.univ fun s : Slot => (atPos ER (cell c s) 0 ∅ 0 : sProp 𝕄))
      ⊢ bigSep Finset.univ fun c : Dev nD => eachCell fun s => fresh c s from bigSep_mono fun c _ => Entails.of_eq (eachCell_eq _)) $$ Hat
  iapply (hdeal K)
  isplitl [HI HR]
  · isplitl [HI]; · iexact HI
    iexact HR
  · iapply (Entails.of_eq (bigSep_sep' Finset.univ (fun c : Dev nD => (tickets c : sProp 𝕄)) fun c => eachCell fun s => fresh c s).symm)
    isplitl [Htk]; · iexact Htk
    iexact Hat

/-- The semaphores of all devices set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- Owed by one's neighbour, summed over all devices. -/
theorem sum_from (f : Dev nD → Dev nD) (hf : ∀ d, f (f d) = d) (c : Dev nD) (P : Prop) [Decidable P] (a : ℕ) :
    (∑ d : Dev nD, if c = f d ∧ P then a else 0) = if P then a else 0 := by
  by_cases hP : P
  · rw [if_pos hP, Finset.sum_eq_single (f c)]
    · exact if_pos ⟨(hf c).symm, hP⟩
    · intro d _ hd
      exact if_neg fun h => hd (by rw [h.1, hf])
    · exact fun h => absurd (Finset.mem_univ _) h
  · rw [if_neg hP]
    exact Finset.sum_eq_zero fun d _ => if_neg fun h => hP h.2

/-- What all devices together owe a cell. -/
def owedTo (s : Slot) : ℕ :=
  (if ∃ i ∈ chunks, s = some (xArr, i) then N else 0) + (if ∃ i ∈ chunks, s = some (yArr, i) then N else 0)
    + (if s = none then 1 else 0) + (if s = none then 1 else 0)

theorem owed_at (d c : Dev nD) (s : Slot) : due₀ d (cell c s) () = (if c = px d ∧ ∃ i ∈ chunks, s = some (xArr, i) then N else 0)
    + (if c = py d ∧ ∃ i ∈ chunks, s = some (yArr, i) then N else 0) + (if c = px d ∧ s = none then 1 else 0) + (if c = py d ∧ s = none then 1 else 0) := by
  have h1 : ∀ e : Dev nD, tallyAt (cell e none) () 1 (cell c s) () = if c = e ∧ s = none then 1 else 0 := fun e => by
    rw [tallyAt_apply]
    exact if_congr ⟨fun h => cell_inj.mp h.1, fun h => ⟨cell_inj.mpr h, rfl⟩⟩ rfl rfl
  unfold due₀ dueB dueY dueX
  rw [Pi.add_apply, Finsupp.add_apply, Pi.add_apply, Finsupp.add_apply, h1, h1, due_apply _ _ _ _ (by decide), due_apply _ _ _ _ (by decide)]
  congr 3
  exact Nat.zero_add _

theorem launch_cell (c : Dev nD) (s : Slot) :
    tallyOn (cell c s) (launchCredit (Pipeline.owing due₀) 0 (cell c s)) = (tallyAt (cell c s) () (owedTo s) : CellTallies nD τ sig Unit) := by
  unfold tallyAt; refine congrArg _ (Finsupp.ext fun u => ?_); cases u
  rw [Pipeline.launchCredit_owing, Finsupp.single_eq_same, Finset.sum_congr rfl fun d _ => owed_at d c s, Finset.sum_add_distrib, Finset.sum_add_distrib,
    Finset.sum_add_distrib, sum_from px px_px, sum_from py py_py, sum_from px px_px, sum_from py py_py]
  rfl

theorem owedTo_bar : owedTo none = 2 := by
  unfold owedTo
  rw [if_neg (by rintro ⟨i, -, h⟩; cases h), if_neg (by rintro ⟨i, -, h⟩; cases h), if_pos rfl]
theorem owedTo_yArr (i : Fin 8) : owedTo (some (yArr, i)) = N := by
  unfold owedTo
  rw [if_neg (by rintro ⟨i, -, h⟩; cases h), if_pos ⟨i, (by decide : ∀ i : Fin 8, i ∈ chunks) i, rfl⟩, if_neg (fun h => by cases h), Nat.zero_add, Nat.add_zero]
theorem owedTo_xArr (i : Fin 8) : owedTo (some (xArr, i)) = N := by
  unfold owedTo
  rw [if_pos ⟨i, (by decide : ∀ i : Fin 8, i ∈ chunks) i, rfl⟩, if_neg (by rintro ⟨i, -, h⟩; cases h), if_neg (fun h => by cases h), Nat.add_zero]

omit [FloatOps F] in
theorem creds (c : Dev nD) : (Pipeline.launchCred due₀ c : sProp 𝕄) ⊢ credits c := by
  have h : (Pipeline.launchCred due₀ c : sProp 𝕄) ⊢ eachCell fun s => cred (tallyAt (cell c s) () (owedTo s)) := by
    unfold Pipeline.launchCred
    refine (bigSep_subset (Finset.subset_univ (Finset.univ.map ⟨ssem, ssem_injective⟩))).trans ?_
    rw [bigSep_map, ← eachCell_eq]
    refine Entails.of_eq (bigSep_congr fun s _ => congrArg _ (launch_cell c s))
  refine h.trans ?_
  unfold eachCell credits
  simp only [owedTo_bar, owedTo_yArr, owedTo_xArr]
  iintro ⟨HB, -, H1, -, H3⟩
  isplitl [HB]; · iexact HB
  isplitl [H1]; · iexact H1
  iexact H3

/-! ## The launch -/

theorem start_intro (c : Dev nD) :
    iprop(Pipeline.unscopedRestP Pipeline.Prefetch.none cfg0.spec c (fun b => m ((c : Thread nD τ).loc b)) ∗ levAts L lv
        ∗ Pipeline.launchCred due₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' records
  icases HG with ⟨%K, ⟨HI, HR⟩, Ht, Hf⟩
  isplitl
  · iexists K
    isplitl [HI HR Hlev]
    · isplitl [HI]; · iexact HI
      isplitl [HR]; · iexact HR
      iexact Hlev
    isplitl [Ht]; · iexact Ht
    isplitl [Hf]; · iexact Hf
    iexact Hc
  · iempintro

omit [FloatOps F] in
/-- The scratch buffers, in the pipeline's terms. -/
theorem bufs_eq (c : Dev nD) : (Pipeline.scopedRest cfg0.spec c : sProp 𝕄) = iprop(buf sM c ∗ buf yM c ∗ buf rM c) := by
  rw [scopedRest0_eq]
  unfold buf
  simp only [Memref.view_whole, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀
  iintro ⟨Hs, -, Hb⟩
  isplitl [Hs]; · iexact Hs
  iexact Hb

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq]
  unfold Φ₁
  rw [← sems_eq]
  iintro ⟨⟨Hu, Ho⟩, Hb⟩
  isplitl [Hu]; · iexact Hu
  isplitl [Ho]; · iexact Ho
  iexact Hb

/-- The staging semaphores may be awaited. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_other c _ (by fin_cases w <;> fin_cases s <;> decide)
    · exact mayWait_free c _

/-- An array's contents after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all semaphores at zero, every weakly fair execution on the sixteen devices ends, with each device's
    arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := due₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.KernelIdealArray.lean ====
/-
What the kernel's arrays hold after the run.

The kernel stages its whole block of `x` and writes its whole result back, so each staging buffer is the array itself.
-/
module

public import proofs.«01_k».proof.Proof.KernelIdealRun

@[expose] public section

noncomputable section

namespace Cert.KernelIdealProof

open Cert.KernelIdeal Cert.KernelIdeal.Gen
open Idealize.ShloMosaic
open Idealize.ShloMosaic.TcCoe
open Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

omit [FloatOps F] in
/-- The one block of the array of `x` is the array. -/
theorem read_in (f : (main_arg0 : Ref sig .tc).ty.Contents (Elt F)) : (win0_0.blk (0 : Fin 1)).view.read (Elt F) f = f := by
  funext i
  show f _ = f i
  refine congrArg f (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

omit [FloatOps F] in
/-- The one block of the result's array is the array. -/
theorem read_out (f : (main_v1 : Ref sig .tc).ty.Contents (Elt F)) : (win0_1.blk (0 : Fin 1)).view.read (Elt F) f = f := by
  funext i
  show f _ = f i
  refine congrArg f (funext fun a => Fin.ext ?_)
  match a with
  | ⟨0, _⟩ => show 0 + 1 * (i 0).val = (i 0).val; omega
  | ⟨1, _⟩ => show 0 + 1 * (i 1).val = (i 1).val; omega

omit [FloatOps F] in
/-- What a device works on is its array of `x`. -/
theorem input_eq (c : Dev nD) : input m c = m ((c : Thread nD τ).loc main_arg0) := read_in _

/-- The result's array holds what the body computes. -/
theorem finalA_out (c : Dev nD) : finalA m ρ c (1 : Fin 2) = outAt (input m) c := by
  have h : (win0_1.blk (0 : Fin 1)).view.read (Elt F) (finalA m ρ c (1 : Fin 2)) = outAt (input m) c := by
    unfold finalA
    rw [show cfg0.N = ((0 : Fin 1) : Fin cfg0.N).val + 1 from rfl, (dats m ρ 0 c).arrAt_succ (1 : Fin 2) (0 : Fin 1),
      if_pos (flush0_1 (0 : Fin 1))]
    exact View.read_write_univ _ _
  exact (read_out _).symm.trans h

end Cert.KernelIdealProof

end
-- ==== Proof.ReferenceValue.lean ====
/-
What the reference computes: each element of its result is the sum of the two layers' elements.
-/
module

public import proofs.«01_k».proof.Proof.Gen.ReferenceIdeal.Run
public import Idealize.ShloMosaic.PureOps.Ideal.Laws
public import Idealize.ShloMosaic.Lib.Pointwise.Reduce

@[expose] public section

noncomputable section

namespace Cert.ReferenceProof

open Cert.ReferenceIdeal Cert.ReferenceIdeal.Gen
open Idealize.ShloMosaic

/-- The reference's result for the array `W`. -/
def total (W : (main_arg0 : Ref sig .tc).ty.Contents (Elt Ideal)) : (main_v0 : Ref sig .tc).ty.Contents (Elt Ideal) :=
  Host.reduceAdd (F := Ideal) (φ := .f32) W (constant S_ .f32 0x00000000#32) reducesTo_S2x2048x1024_S2048x1024_d0 h_S_

/-- Layer `l` of `W` at row `r`, column `j`. -/
def layer (W : (main_arg0 : Ref sig .tc).ty.Contents (Elt Ideal)) (l : Fin 2) (r j : ℕ) (hr : r < 2048) (hj : j < 1024) : EReal :=
  W (ix3 (n0 := 2) (n1 := 2048) (n2 := 1024) l ⟨r, hr⟩ ⟨j, hj⟩)

theorem total_apply (W : (main_arg0 : Ref sig .tc).ty.Contents (Elt Ideal)) (j : S2048x1024.Idx) :
    total W j = layer W 0 (j 0).val (j 1).val (j 0).isLt (j 1).isLt + layer W 1 (j 0).val (j 1).val (j 0).isLt (j 1).isLt := by
  unfold total
  rw [Host.reduceAdd_apply, Ideal.hostReduceAdd_def, Ideal.hostReduceAdd_r3_a0, Fin.sum_univ_two]
  have h0 : constant (F := Ideal) S_ .f32 0x00000000#32 (Shape.Idx.first h_S_) = (0 : EReal) := Ideal.ofBits_zero_f32
  rw [h0]
  exact zero_add (M := EReal) _

end Cert.ReferenceProof

end
-- ==== Proof.Equation.lean ====
/-
The equation: on every device the kernel's result is that device's block of the reference's.

A device's own element is in layer `y`. What it adds to it was sent by the device opposite along `y`, either directly or by way of
the neighbour along `x`; both hold the other layer, so the sum is the reference's, up to the order of its two terms.
-/
module

public import proofs.«01_k».proof.Proof.KernelIdealArray
public import proofs.«01_k».proof.Proof.ReferenceValue
public import Idealize.ShloMosaic.Lib.Layout

@[expose] public section

noncomputable section

namespace Cert.KernelIdealProof

open Cert.KernelIdeal Cert.KernelIdeal.Gen
open Idealize.ShloMosaic
open Cert.ReferenceProof (total layer total_apply)

/-- The whole array of `x`. -/
abbrev Whole := (Cert.ReferenceIdeal.main_arg0 : Ref Cert.ReferenceIdeal.sig .tc).ty.Contents (Elt Ideal)

/-- The block of `x` device `c` holds. -/
def blockIn (W : Whole) (c : Dev nD) : (main_arg0 : Ref sig .tc).ty.Contents (Elt Ideal) :=
  Layout.blockN ⟨3, ![1, 2048, 1024]⟩ ⟨3, ![2, 2048, 1024]⟩ (Layout.meshBlock [2, 2, 4] ![[1], [], []] c) W

/-- The block of the result device `c` holds. -/
def blockOut (R : (Cert.ReferenceIdeal.main_v0 : Ref Cert.ReferenceIdeal.sig .tc).ty.Contents (Elt Ideal)) (c : Dev nD) :
    (main_v1 : Ref sig .tc).ty.Contents (Elt Ideal) :=
  Layout.blockN ⟨2, ![2048, 512]⟩ ⟨2, ![2048, 1024]⟩ (Layout.meshBlock [2, 2, 4] ![[], [1]] c) R

theorem layer_congr (W : Whole) {l l' : Fin 2} {r r' j j' : ℕ} (hl : l = l') (h : r = r') (h' : j = j') (hr hj hr' hj') :
    layer W l r j hr hj = layer W l' r' j' hr' hj' := by
  subst hl; subst h; subst h'; rfl

/-- Along the mesh's second axis a device's place is `my`. -/
theorem place (c : Dev nD) : Layout.meshLin [2, 2, 4] c.val [1] = my c := by
  have h : ∀ n < 16, Layout.meshLin [2, 2, 4] n [1] = n / 4 % 2 := by decide
  exact h c.val c.isLt

/-- A device's block of `x` is the layer its place along `y` names. -/
theorem blockIn_apply (W : Whole) (c : Dev nD) (r j : ℕ) (hr : r < 2048) (hj : j < 1024) :
    xAt (blockIn W) c r j hr hj = layer W ⟨my c, my_lt c⟩ r j hr hj := by
  unfold xAt blockIn layer
  rw [Layout.blockN_apply]
  refine congrArg W (funext fun a => Fin.ext ?_)
  match a with
  | ⟨0, _⟩ =>
    have h : Layout.meshLin [2, 2, 4] c.val [1] * 1 + 0 = my c := by rw [place c]; omega
    exact h
  | ⟨1, _⟩ =>
    have h : 0 * 2048 + r = r := by omega
    exact h
  | ⟨2, _⟩ =>
    have h : 0 * 1024 + j = j := by omega
    exact h

/-- A sum at an index whose coordinates are known. -/
theorem total_at (W : Whole) (i : Cert.ReferenceIdeal.S2048x1024.Idx) (r q : ℕ) (h0 : (i 0).val = r) (h1 : (i 1).val = q) (hr : r < 2048) (hq : q < 1024) :
    total W i = layer W 0 r q hr hq + layer W 1 r q hr hq := by
  subst h0; subst h1
  exact total_apply W i

/-- A device's block of the result is the half of the columns its place along `y` names. -/
theorem blockOut_apply (W : Whole) (c : Dev nD) (j : S2048x512.Idx)
    (hr : (j 0).val < 2048) (hj : 512 * my c + (j 1).val < 1024) :
    blockOut (total W) c j
      = layer W 0 (j 0).val (512 * my c + (j 1).val) hr hj + layer W 1 (j 0).val (512 * my c + (j 1).val) hr hj := by
  unfold blockOut
  rw [Layout.blockN_apply]
  have h0 : 0 * 2048 + (j 0).val = (j 0).val := by rw [Nat.zero_mul, Nat.zero_add]
  have h1 : Layout.meshLin [2, 2, 4] c.val [1] * 512 + (j 1).val = 512 * my c + (j 1).val := by rw [place c, Nat.mul_comm]
  exact total_at W _ _ _ h0 h1 hr hj

/-- Whoever sent a row to `c` sits opposite along `y`, and in the half of the rows that row lies in. -/
theorem my_source (c : Dev nD) (r : ℕ) : my (source c r) = 1 - my c := by
  unfold source
  split
  · exact my_py c
  · rw [my_py, my_px]

theorem mx_source (c : Dev nD) (r : ℕ) (hr : r < 2048) : mx (source c r) = r / 1024 := by
  have := mx_lt c
  unfold source
  split
  · rename_i h; rw [mx_py, h]
  · rename_i h; rw [mx_py, mx_px]; omega

/-- The kernel's result on every device is its block of the reference's. -/
theorem outAt_eq (W : Whole) (c : Dev nD) : outAt (F := Ideal) (blockIn W) c = blockOut (total W) c := by
  funext j
  have hr : (j 0).val < 2048 := (j 0).isLt
  have hj : (j 1).val < 512 := (j 1).isLt
  have hy := my_lt c
  have hx := mx_source c (j 0).val hr
  have hs := my_source c (j 0).val
  rw [blockOut_apply W c j hr (by omega)]
  show xAt (blockIn W) c (j 0).val (512 * my c + (j 1).val) _ _
      + xAt (blockIn W) (source c (j 0).val) (1024 * mx (source c (j 0).val) + (j 0).val % 1024)
          (512 - 512 * my (source c (j 0).val) + (j 1).val) _ _ = (_ : EReal)
  refine (congrArg₂ (fun a b : EReal => a + b) (blockIn_apply W c _ _ hr (by omega)) (blockIn_apply W _ _ _ (by omega) (by omega))).trans ?_
  dsimp only
  have hrow : 1024 * mx (source c (j 0).val) + (j 0).val % 1024 = (j 0).val := by rw [hx]; omega
  have hcol : 512 - 512 * my (source c (j 0).val) + (j 1).val = 512 * my c + (j 1).val := by rw [hs]; omega
  rcases (by omega : my c = 0 ∨ my c = 1) with h | h
  · exact congrArg₂ (· + ·) (layer_congr W (Fin.ext h) rfl rfl _ _ _ _)
      (layer_congr W (Fin.ext (by show my _ = 1; omega)) hrow hcol _ _ _ _)
  · rw [add_comm (G := EReal)]
    exact congrArg₂ (· + ·) (layer_congr W (Fin.ext (by show my _ = 0; omega)) hrow hcol _ _ _ _)
      (layer_congr W (Fin.ext h) rfl rfl _ _ _ _)

end Cert.KernelIdealProof

end
-- ==== Proof.lean ====
/-
The claims, from the runs and the equation.

Each kernel's run says what its arrays hold and that every semaphore is back at zero; the reference has no semaphores.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Equation
public import Idealize.ShloMosaic.Lib.Quiescent

@[expose] public section

noncomputable section

namespace Cert.Proof

open Idealize.ShloMosaic Idealize.SL.Sem

/-- The kernel runs, leaves `x` as it was, and leaves every semaphore at zero. -/
theorem kernel_frame : Cert.quiescent_Kernel (hKernel := Cert.Kernel.Gen.facts) := fun m g _ =>
  (θ_run Cert.Kernel.defs _ _).mono
    (fun _ h => ⟨fun c => (h.1 c (0 : Fin 2)).trans (Cert.KernelProof.finalA_x m g c), h.2⟩)
    (Cert.KernelProof.run_main (F := Bits) m g)

/-- So does its idealization. -/
theorem ideal_frame : Cert.quiescent_KernelIdeal (hKernelIdeal := Cert.KernelIdeal.Gen.facts) := fun m g _ =>
  (θ_run Cert.KernelIdeal.defs _ _).mono
    (fun _ h => ⟨fun c => (h.1 c (0 : Fin 2)).trans (Cert.KernelIdealProof.finalA_x m g c), h.2⟩)
    (Cert.KernelIdealProof.run_main (F := Ideal) m g)

/-- So does the reference, which has no semaphores. -/
theorem reference_frame : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems rfl r.2⟩)
    (Cert.ReferenceIdeal.Value.run (F := Ideal) m g)

/-- Every device's result is its block of the reference's. -/
theorem equal : Cert.algebraic_KernelIdeal_ReferenceIdeal (hKernelIdeal := Cert.KernelIdeal.Gen.facts)
    (hReferenceIdeal := Cert.ReferenceIdeal.Gen.facts) := fun m g m' g' _ hm => by
  refine ⟨Cert.ReferenceProof.total
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨?_, ?_⟩) (Cert.KernelIdealProof.run_main (F := Ideal) m g)
    · refine (h.1 c (1 : Fin 2)).trans ((Cert.KernelIdealProof.finalA_out m g c).trans ?_)
      have hin : Cert.KernelIdealProof.input m = Cert.KernelIdealProof.blockIn _ :=
        funext fun d => (Cert.KernelIdealProof.input_eq m d).trans (hm d)
      rw [hin]
      exact Cert.KernelIdealProof.outAt_eq _ c
    · exact (h.1 c (0 : Fin 2)).trans (Cert.KernelIdealProof.finalA_x m g c)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    kernel_frame, ideal_frame, reference_frame, trivial, equal⟩

end Cert.Proof

end
